-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x6x5x64x128 : Shape := ⟨6, ![8, 32, 6, 5, 64, 128]⟩
abbrev S256x6x5x64x128 : Shape := ⟨5, ![256, 6, 5, 64, 128]⟩
abbrev S256x6x5x66x130 : Shape := ⟨5, ![256, 6, 5, 66, 130]⟩
abbrev S8x6x5x64x128 : Shape := ⟨5, ![8, 6, 5, 64, 128]⟩
abbrev S8x6x5x66x130 : Shape := ⟨5, ![8, 6, 5, 66, 130]⟩
abbrev S1x128 : Shape := ⟨2, ![1, 128]⟩
abbrev S128 : Shape := ⟨1, ![128]⟩
abbrev S8x6x5x1x128 : Shape := ⟨5, ![8, 6, 5, 1, 128]⟩
abbrev S8x6x5x128 : Shape := ⟨4, ![8, 6, 5, 128]⟩
abbrev S1x1x1x128 : Shape := ⟨4, ![1, 1, 1, 128]⟩
abbrev S8x6x5x64 : Shape := ⟨4, ![8, 6, 5, 64]⟩
abbrev S8x6x5x1x64 : Shape := ⟨5, ![8, 6, 5, 1, 64]⟩
abbrev S8x6x5x64x1 : Shape := ⟨5, ![8, 6, 5, 64, 1]⟩
abbrev S1x64 : Shape := ⟨2, ![1, 64]⟩
abbrev S64 : Shape := ⟨1, ![64]⟩
abbrev S1x1x1x64 : Shape := ⟨4, ![1, 1, 1, 64]⟩
abbrev S64x64 : Shape := ⟨2, ![64, 64]⟩
abbrev S8x6x1x64 : Shape := ⟨4, ![8, 6, 1, 64]⟩
abbrev S8x6x4x64 : Shape := ⟨4, ![8, 6, 4, 64]⟩
abbrev S8x5x5x64 : Shape := ⟨4, ![8, 5, 5, 64]⟩
abbrev S8x1x5x64 : Shape := ⟨4, ![8, 1, 5, 64]⟩
abbrev S8x6x5x63x128 : Shape := ⟨5, ![8, 6, 5, 63, 128]⟩
abbrev S8x6x5x1x1 : Shape := ⟨5, ![8, 6, 5, 1, 1]⟩
abbrev S8x32x6x5x66x130 : Shape := ⟨6, ![8, 32, 6, 5, 66, 130]⟩

abbrev nBuf : Space → Nat
  | .hbm => 4
  | .vmem => 4
  | .smem => 0
  | _ => 0

abbrev bufTy : (tb : Table) → Fin (tcTables nBuf tb) → BufTy
  | .hbm, ⟨0, _⟩ => ⟨S8x32x6x5x64x128, .f32⟩
  | .hbm, ⟨1, _⟩ => ⟨S256x6x5x64x128, .f32⟩
  | .hbm, ⟨2, _⟩ => ⟨S256x6x5x66x130, .f32⟩
  | .hbm, ⟨3, _⟩ => ⟨S8x32x6x5x66x130, .f32⟩
  | .local _ .vmem, ⟨0, _⟩ => ⟨S8x6x5x64x128, .f32⟩
  | .local _ .vmem, ⟨1, _⟩ => ⟨S8x6x5x64x128, .f32⟩
  | .local _ .vmem, ⟨2, _⟩ => ⟨S8x6x5x66x130, .f32⟩
  | .local _ .vmem, ⟨3, _⟩ => ⟨S8x6x5x66x130, .f32⟩
  | _, _ => ⟨S8x32x6x5x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x6x5x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6x5x66x130 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x32x6x5x64x128 : Shape := ⟨6, ![8, 32, 6, 5, 64, 128]⟩
abbrev S_ : Shape := ⟨0, ![]⟩
abbrev S64x128 : Shape := ⟨2, ![64, 128]⟩
abbrev S1x1 : Shape := ⟨2, ![1, 1]⟩
abbrev S1x1x1x1x64x128 : Shape := ⟨6, ![1, 1, 1, 1, 64, 128]⟩
abbrev S8x32x245760 : Shape := ⟨3, ![8, 32, 245760]⟩
abbrev S245760 : Shape := ⟨1, ![245760]⟩
abbrev S6x5x64x128 : Shape := ⟨4, ![6, 5, 64, 128]⟩
abbrev S6x5x66x130 : Shape := ⟨4, ![6, 5, 66, 130]⟩
abbrev S6x1x64x128 : Shape := ⟨4, ![6, 1, 64, 128]⟩
abbrev S6x4x64x128 : Shape := ⟨4, ![6, 4, 64, 128]⟩
abbrev S6x5x1x64 : Shape := ⟨4, ![6, 5, 1, 64]⟩
abbrev S6x5x64 : Shape := ⟨3, ![6, 5, 64]⟩
abbrev S5x5x64x128 : Shape := ⟨4, ![5, 5, 64, 128]⟩
abbrev S1x5x64x128 : Shape := ⟨4, ![1, 5, 64, 128]⟩
abbrev S6x5x64x1 : Shape := ⟨4, ![6, 5, 64, 1]⟩
abbrev S257400 : Shape := ⟨1, ![257400]⟩
abbrev S257400x1 : Shape := ⟨2, ![257400, 1]⟩
abbrev S1 : Shape := ⟨1, ![1]⟩
abbrev S8x32x257400 : Shape := ⟨3, ![8, 32, 257400]⟩
abbrev S8x32x6x5x66x130 : Shape := ⟨6, ![8, 32, 6, 5, 66, 130]⟩

abbrev nBuf : Space → Nat
  | .hbm => 133
  | .vmem => 0
  | .smem => 0
  | _ => 0

abbrev hbmTy0_0 (i : Nat) : BufTy := match i % 128 with
  | 0 => ⟨S8x32x6x5x64x128, .f32⟩
  | 1 => ⟨S_, .f32⟩
  | 2 => ⟨S64x128, .f32⟩
  | 3 => ⟨S_, .f32⟩
  | 4 => ⟨S1x1, .f32⟩
  | 5 => ⟨S_, .i32⟩
  | 6 => ⟨S_, .i32⟩
  | 7 => ⟨S64x128, .f32⟩
  | 8 => ⟨S_, .f32⟩
  | 9 => ⟨S1x1, .f32⟩
  | 10 => ⟨S_, .i32⟩
  | 11 => ⟨S_, .i32⟩
  | 12 => ⟨S64x128, .f32⟩
  | 13 => ⟨S1x1x1x1x64x128, .f32⟩
  | 14 => ⟨S8x32x6x5x64x128, .f32⟩
  | 15 => ⟨S8x32x6x5x64x128, .f32⟩
  | 16 => ⟨S8x32x245760, .f32⟩
  | 17 => ⟨S245760, .i32⟩
  | 18 => ⟨S6x5x64x128, .i32⟩
  | 19 => ⟨S_, .i32⟩
  | 20 => ⟨S6x5x66x130, .i32⟩
  | 21 => ⟨S_, .i32⟩
  | 22 => ⟨S_, .i32⟩
  | 23 => ⟨S_, .i32⟩
  | 24 => ⟨S_, .i32⟩
  | 25 => ⟨S6x5x66x130, .i32⟩
  | 26 => ⟨S6x1x64x128, .i32⟩
  | 27 => ⟨S6x4x64x128, .i32⟩
  | 28 => ⟨S6x5x64x128, .i32⟩
  | 29 => ⟨S6x5x1x64, .i32⟩
  | 30 => ⟨S6x5x64, .i32⟩
  | 31 => ⟨S6x5x1x64, .i32⟩
  | 32 => ⟨S_, .i32⟩
  | 33 => ⟨S_, .i32⟩
  | 34 => ⟨S_, .i32⟩
  | 35 => ⟨S_, .i32⟩
  | 36 => ⟨S6x5x66x130, .i32⟩
  | 37 => ⟨S6x1x64x128, .i32⟩
  | 38 => ⟨S6x4x64x128, .i32⟩
  | 39 => ⟨S6x5x64x128, .i32⟩
  | 40 => ⟨S5x5x64x128, .i32⟩
  | 41 => ⟨S1x5x64x128, .i32⟩
  | 42 => ⟨S6x5x64x128, .i32⟩
  | 43 => ⟨S6x5x64x1, .i32⟩
  | 44 => ⟨S6x5x64, .i32⟩
  | 45 => ⟨S6x5x64, .i32⟩
  | 46 => ⟨S6x5x1x64, .i32⟩
  | 47 => ⟨S_, .i32⟩
  | 48 => ⟨S_, .i32⟩
  | 49 => ⟨S_, .i32⟩
  | 50 => ⟨S_, .i32⟩
  | 51 => ⟨S6x5x66x130, .i32⟩
  | 52 => ⟨S6x4x64x128, .i32⟩
  | 53 => ⟨S6x1x64x128, .i32⟩
  | 54 => ⟨S6x5x64x128, .i32⟩
  | 55 => ⟨S5x5x64x128, .i32⟩
  | 56 => ⟨S1x5x64x128, .i32⟩
  | 57 => ⟨S6x5x64x128, .i32⟩
  | 58 => ⟨S6x5x64x1, .i32⟩
  | 59 => ⟨S6x5x64, .i32⟩
  | 60 => ⟨S6x5x64, .i32⟩
  | 61 => ⟨S6x5x1x64, .i32⟩
  | 62 => ⟨S_, .i32⟩
  | 63 => ⟨S_, .i32⟩
  | 64 => ⟨S_, .i32⟩
  | 65 => ⟨S_, .i32⟩
  | 66 => ⟨S6x5x66x130, .i32⟩
  | 67 => ⟨S6x4x64x128, .i32⟩
  | 68 => ⟨S6x1x64x128, .i32⟩
  | 69 => ⟨S6x5x64x128, .i32⟩
  | 70 => ⟨S6x5x1x64, .i32⟩
  | 71 => ⟨S6x5x64, .i32⟩
  | 72 => ⟨S6x5x1x64, .i32⟩
  | 73 => ⟨S_, .i32⟩
  | 74 => ⟨S_, .i32⟩
  | 75 => ⟨S_, .i32⟩
  | 76 => ⟨S_, .i32⟩
  | 77 => ⟨S6x5x66x130, .i32⟩
  | 78 => ⟨S6x1x64x128, .i32⟩
  | 79 => ⟨S6x4x64x128, .i32⟩
  | 80 => ⟨S6x5x64x128, .i32⟩
  | 81 => ⟨S1x5x64x128, .i32⟩
  | 82 => ⟨S5x5x64x128, .i32⟩
  | 83 => ⟨S6x5x64x128, .i32⟩
  | 84 => ⟨S6x5x1x64, .i32⟩
  | 85 => ⟨S6x5x64, .i32⟩
  | 86 => ⟨S6x5x64, .i32⟩
  | 87 => ⟨S6x5x64x1, .i32⟩
  | 88 => ⟨S_, .i32⟩
  | 89 => ⟨S_, .i32⟩
  | 90 => ⟨S_, .i32⟩
  | 91 => ⟨S_, .i32⟩
  | 92 => ⟨S6x5x66x130, .i32⟩
  | 93 => ⟨S6x4x64x128, .i32⟩
  | 94 => ⟨S6x1x64x128, .i32⟩
  | 95 => ⟨S6x5x64x128, .i32⟩
  | 96 => ⟨S1x5x64x128, .i32⟩
  | 97 => ⟨S5x5x64x128, .i32⟩
  | 98 => ⟨S6x5x64x128, .i32⟩
  | 99 => ⟨S6x5x1x64, .i32⟩
  | 100 => ⟨S6x5x64, .i32⟩
  | 101 => ⟨S6x5x64, .i32⟩
  | 102 => ⟨S6x5x64x1, .i32⟩
  | 103 => ⟨S_, .i32⟩
  | 104 => ⟨S_, .i32⟩
  | 105 => ⟨S_, .i32⟩
  | 106 => ⟨S_, .i32⟩
  | 107 => ⟨S6x5x66x130, .i32⟩
  | 108 => ⟨S257400, .i32⟩
  | 109 => ⟨S_, .i32⟩
  | 110 => ⟨S257400, .i32⟩
  | 111 => ⟨S257400, .i1⟩
  | 112 => ⟨S_, .i32⟩
  | 113 => ⟨S257400, .i32⟩
  | 114 => ⟨S257400, .i32⟩
  | 115 => ⟨S257400, .i32⟩
  | 116 => ⟨S257400x1, .i32⟩
  | 117 => ⟨S1, .i32⟩
  | 118 => ⟨S_, .i32⟩
  | 119 => ⟨S257400x1, .i32⟩
  | 120 => ⟨S257400x1, .i1⟩
  | 121 => ⟨S1x1, .i32⟩
  | 122 => ⟨S257400x1, .i32⟩
  | 123 => ⟨S257400x1, .i1⟩
  | 124 => ⟨S257400x1, .i1⟩
  | 125 => ⟨S_, .i1⟩
  | 126 => ⟨S257400, .i1⟩
  | 127 => ⟨S8x32x257400, .f32⟩
  | _ => ⟨S8x32x6x5x64x128, .f32⟩

abbrev hbmTy0_1 (i : Nat) : BufTy := match i % 128 with
  | 0 => ⟨S8x32x257400, .i1⟩
  | 1 => ⟨S_, .f32⟩
  | 2 => ⟨S8x32x257400, .f32⟩
  | 3 => ⟨S8x32x257400, .f32⟩
  | 4 => ⟨S8x32x6x5x66x130, .f32⟩
  | _ => ⟨S8x32x6x5x64x128, .f32⟩

abbrev hbmTy (i : Nat) : BufTy := match i / 128 with
  | 0 => hbmTy0_0 i
  | 1 => hbmTy0_1 i
  | _ => ⟨S8x32x6x5x64x128, .f32⟩

abbrev bufTy : (tb : Table) → Fin (tcTables nBuf tb) → BufTy
  | .hbm, ⟨i, _⟩ => hbmTy i
  | _, _ => ⟨S8x32x6x5x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_c_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_c_3 : Ref sig .tc := ⟨.hbm, 10, rfl⟩
abbrev main_c_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_c_6 : Ref sig .tc := ⟨.hbm, 21, rfl⟩
abbrev main_c_7 : Ref sig .tc := ⟨.hbm, 22, rfl⟩
abbrev main_c_8 : Ref sig .tc := ⟨.hbm, 23, rfl⟩
abbrev main_c_9 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_c_13 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_14 : Ref sig .tc := ⟨.hbm, 47, rfl⟩
abbrev main_c_15 : Ref sig .tc := ⟨.hbm, 48, rfl⟩
abbrev main_c_16 : Ref sig .tc := ⟨.hbm, 49, rfl⟩
abbrev main_c_17 : Ref sig .tc := ⟨.hbm, 50, rfl⟩
abbrev main_v24 : Ref sig .tc := ⟨.hbm, 51, rfl⟩
abbrev main_call4_v0 : Ref sig .tc := ⟨.hbm, 52, rfl⟩
abbrev main_call4_v1 : Ref sig .tc := ⟨.hbm, 53, rfl⟩
abbrev main_v25 : Ref sig .tc := ⟨.hbm, 54, rfl⟩
abbrev main_call5_v0 : Ref sig .tc := ⟨.hbm, 55, rfl⟩
abbrev main_call5_v1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_18 : Ref sig .tc := ⟨.hbm, 62, rfl⟩
abbrev main_c_19 : Ref sig .tc := ⟨.hbm, 63, rfl⟩
abbrev main_c_20 : Ref sig .tc := ⟨.hbm, 64, rfl⟩
abbrev main_c_21 : Ref sig .tc := ⟨.hbm, 65, rfl⟩
abbrev main_v31 : Ref sig .tc := ⟨.hbm, 66, rfl⟩
abbrev main_call7_v0 : Ref sig .tc := ⟨.hbm, 67, rfl⟩
abbrev main_call7_v1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_22 : Ref sig .tc := ⟨.hbm, 73, rfl⟩
abbrev main_c_23 : Ref sig .tc := ⟨.hbm, 74, rfl⟩
abbrev main_c_24 : Ref sig .tc := ⟨.hbm, 75, rfl⟩
abbrev main_c_25 : Ref sig .tc := ⟨.hbm, 76, rfl⟩
abbrev main_v36 : Ref sig .tc := ⟨.hbm, 77, rfl⟩
abbrev main_call8_v0 : Ref sig .tc := ⟨.hbm, 78, rfl⟩
abbrev main_call8_v1 : Ref sig .tc := ⟨.hbm, 79, rfl⟩
abbrev main_v37 : Ref sig .tc := ⟨.hbm, 80, rfl⟩
abbrev main_call9_v0 : Ref sig .tc := ⟨.hbm, 81, rfl⟩
abbrev main_call9_v1 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_26 : Ref sig .tc := ⟨.hbm, 88, rfl⟩
abbrev main_c_27 : Ref sig .tc := ⟨.hbm, 89, rfl⟩
abbrev main_c_28 : Ref sig .tc := ⟨.hbm, 90, rfl⟩
abbrev main_c_29 : Ref sig .tc := ⟨.hbm, 91, rfl⟩
abbrev main_v43 : Ref sig .tc := ⟨.hbm, 92, rfl⟩
abbrev main_call11_v0 : Ref sig .tc := ⟨.hbm, 93, rfl⟩
abbrev main_call11_v1 : Ref sig .tc := ⟨.hbm, 94, rfl⟩
abbrev main_v44 : Ref sig .tc := ⟨.hbm, 95, rfl⟩
abbrev main_call12_v0 : Ref sig .tc := ⟨.hbm, 96, rfl⟩
abbrev main_call12_v1 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_30 : Ref sig .tc := ⟨.hbm, 103, rfl⟩
abbrev main_c_31 : Ref sig .tc := ⟨.hbm, 104, rfl⟩
abbrev main_c_32 : Ref sig .tc := ⟨.hbm, 105, rfl⟩
abbrev main_c_33 : Ref sig .tc := ⟨.hbm, 106, rfl⟩
abbrev main_v50 : Ref sig .tc := ⟨.hbm, 107, rfl⟩
abbrev main_v51 : Ref sig .tc := ⟨.hbm, 108, rfl⟩
abbrev main_call14_c : Ref sig .tc := ⟨.hbm, 109, rfl⟩
abbrev main_call14_v0 : Ref sig .tc := ⟨.hbm, 110, rfl⟩
abbrev main_call14_v1 : Ref sig .tc := ⟨.hbm, 111, rfl⟩
abbrev main_call14_c_0 : Ref sig .tc := ⟨.hbm, 112, rfl⟩
abbrev main_call14_v2 : Ref sig .tc := ⟨.hbm, 113, rfl⟩
abbrev main_call14_v3 : Ref sig .tc := ⟨.hbm, 114, rfl⟩
abbrev main_call14_v4 : Ref sig .tc := ⟨.hbm, 115, rfl⟩
abbrev main_call14_v5 : Ref sig .tc := ⟨.hbm, 116, rfl⟩
abbrev main_call14_c_1 : Ref sig .tc := ⟨.hbm, 117, rfl⟩
abbrev main_call14_c_2 : Ref sig .tc := ⟨.hbm, 118, rfl⟩
abbrev main_call14_v6 : Ref sig .tc := ⟨.hbm, 119, rfl⟩
abbrev main_call14_v7 : Ref sig .tc := ⟨.hbm, 120, rfl⟩
abbrev main_call14_v8 : Ref sig .tc := ⟨.hbm, 121, rfl⟩
abbrev main_call14_v9 : Ref sig .tc := ⟨.hbm, 122, rfl⟩
abbrev main_call14_v10 : Ref sig .tc := ⟨.hbm, 123, rfl⟩
abbrev main_call14_v11 : Ref sig .tc := ⟨.hbm, 124, rfl⟩
abbrev main_call14_c_3 : Ref sig .tc := ⟨.hbm, 125, rfl⟩
abbrev main_call14_v12 : Ref sig .tc := ⟨.hbm, 126, rfl⟩
abbrev main_call14_v13 : Ref sig .tc := ⟨.hbm, 127, rfl⟩
abbrev main_call14_v14 : Ref sig .tc := ⟨.hbm, 128, rfl⟩
abbrev main_call14_cst : Ref sig .tc := ⟨.hbm, 129, rfl⟩
abbrev main_call14_v15 : Ref sig .tc := ⟨.hbm, 130, rfl⟩
abbrev main_v52 : Ref sig .tc := ⟨.hbm, 131, rfl⟩
abbrev main_v53 : Ref sig .tc := ⟨.hbm, 132, rfl⟩

abbrev nD : Nat := 1
abbrev τ : Topo := Topo.v7x

variable {F : FTy → Type} [FloatOps F]
-- ==== Proof.Spec.lean ====
/- What padding the faces of the image means: for each position of a padded face, the position of an unpadded face whose
   element it shows. Both programs are proved to compute `pad`, so this module names neither. -/
module

public import Idealize.ShloMosaic.PureOps.Ideal
public import Idealize.ShloMosaic.Lib.Pointwise

@[expose] public section

noncomputable section

namespace Cert.Spec

open Idealize.ShloMosaic

/-- A position on an unpadded face: face row, face column, image row, image column. -/
abbrev Pos : Type := Fin 6 × Fin 5 × Fin 64 × Fin 128

/-- The position that position `(h, w)` of the padded face `(r, c)` shows. The interior shows the face itself. The top edge
    shows the last image row's right half of the face before it and, reversed, the last image column of that face's
    neighbour below. The bottom edge shows, reversed, the first image column of the face below and after it and the first
    image row's left half of the face after it. The left and right edges show, reversed, the last image row's left half and
    the first image row's right half of the faces above. The five positions left over, near the corners, show position zero. -/
def src (r : Fin 6) (c : Fin 5) (h : Fin 66) (w : Fin 130) : Pos :=
  if i : 1 ≤ h.val ∧ h.val ≤ 64 ∧ 1 ≤ w.val ∧ w.val ≤ 128 then (r, c, ⟨h.val - 1, by omega⟩, ⟨w.val - 1, by omega⟩)
  else if i : h.val = 0 ∧ 1 ≤ w.val ∧ w.val ≤ 64 then (r, ⟨(c.val + 4) % 5, by omega⟩, 63, ⟨63 + w.val, by omega⟩)
  else if i : h.val = 0 ∧ 65 ≤ w.val ∧ w.val ≤ 128 then
    (⟨(r.val + 1) % 6, by omega⟩, ⟨(c.val + 4) % 5, by omega⟩, ⟨128 - w.val, by omega⟩, 127)
  else if i : h.val = 65 ∧ 2 ≤ w.val ∧ w.val ≤ 64 then
    (⟨(r.val + 1) % 6, by omega⟩, ⟨(c.val + 1) % 5, by omega⟩, ⟨65 - w.val, by omega⟩, 0)
  else if i : h.val = 65 ∧ 65 ≤ w.val ∧ w.val ≤ 128 then (r, ⟨(c.val + 1) % 5, by omega⟩, 0, ⟨w.val - 65, by omega⟩)
  else if i : w.val = 0 ∧ 1 ≤ h.val ∧ h.val ≤ 64 then
    (⟨(r.val + 5) % 6, by omega⟩, ⟨(c.val + 4) % 5, by omega⟩, 63, ⟨64 - h.val, by omega⟩)
  else if i : w.val = 129 ∧ 2 ≤ h.val ∧ h.val ≤ 65 then
    (⟨(r.val + 5) % 6, by omega⟩, ⟨(c.val + 1) % 5, by omega⟩, 0, ⟨129 - h.val, by omega⟩)
  else (0, 0, 0, 0)

/-- The place of a position when the faces are laid out one element after the other. -/
def place (s : Pos) : ℕ := ((s.1.val * 5 + s.2.1.val) * 64 + s.2.2.1.val) * 128 + s.2.2.2.val

/-- There are 245760 places. -/
theorem place_lt (s : Pos) : place s < 245760 := by unfold place; omega

/-- The faces `X` with the two masked elements of each face, image row 0 at columns 0 and 64, set to zero. -/
def masked (X : Fin 6 → Fin 5 → Fin 64 → Fin 128 → EReal) (s : Pos) : EReal :=
  if s.2.2.1.val = 0 ∧ (s.2.2.2.val = 0 ∨ s.2.2.2.val = 64) then 0 else X s.1 s.2.1 s.2.2.1 s.2.2.2

/-- The padded faces of `X`. -/
def pad (X : Fin 6 → Fin 5 → Fin 64 → Fin 128 → EReal) (r : Fin 6) (c : Fin 5) (h : Fin 66) (w : Fin 130) : EReal :=
  masked X (src r c h w)

variable {r : Fin 6} {c : Fin 5} {h : Fin 66} {w : Fin 130}

/-- Two positions are the same when their four coordinates are. -/
theorem pos_ext {s t : Pos} (h0 : s.1.val = t.1.val) (h1 : s.2.1.val = t.2.1.val) (h2 : s.2.2.1.val = t.2.2.1.val)
    (h3 : s.2.2.2.val = t.2.2.2.val) : s = t :=
  Prod.ext (Fin.ext h0) (Prod.ext (Fin.ext h1) (Prod.ext (Fin.ext h2) (Fin.ext h3)))

/-- The interior shows the face itself. -/
theorem src_interior {s : Pos} (i : 1 ≤ h.val ∧ h.val ≤ 64 ∧ 1 ≤ w.val ∧ w.val ≤ 128) (h0 : s.1.val = r.val)
    (h1 : s.2.1.val = c.val) (h2 : s.2.2.1.val = h.val - 1) (h3 : s.2.2.2.val = w.val - 1) : src r c h w = s := by
  rw [src, dif_pos i]; exact pos_ext h0.symm h1.symm h2.symm h3.symm

/-- The left half of the top edge. -/
theorem src_topLeft {s : Pos} (i : h.val = 0 ∧ 1 ≤ w.val ∧ w.val ≤ 64) (h0 : s.1.val = r.val)
    (h1 : s.2.1.val = (c.val + 4) % 5) (h2 : s.2.2.1.val = 63) (h3 : s.2.2.2.val = 63 + w.val) : src r c h w = s := by
  rw [src, dif_neg (by omega), dif_pos i]; exact pos_ext h0.symm h1.symm h2.symm h3.symm

/-- The right half of the top edge. -/
theorem src_topRight {s : Pos} (i : h.val = 0 ∧ 65 ≤ w.val ∧ w.val ≤ 128) (h0 : s.1.val = (r.val + 1) % 6)
    (h1 : s.2.1.val = (c.val + 4) % 5) (h2 : s.2.2.1.val = 128 - w.val) (h3 : s.2.2.2.val = 127) : src r c h w = s := by
  rw [src, dif_neg (by omega), dif_neg (by omega), dif_pos i]; exact pos_ext h0.symm h1.symm h2.symm h3.symm

/-- The left half of the bottom edge. -/
theorem src_botLeft {s : Pos} (i : h.val = 65 ∧ 2 ≤ w.val ∧ w.val ≤ 64) (h0 : s.1.val = (r.val + 1) % 6)
    (h1 : s.2.1.val = (c.val + 1) % 5) (h2 : s.2.2.1.val = 65 - w.val) (h3 : s.2.2.2.val = 0) : src r c h w = s := by
  rw [src, dif_neg (by omega), dif_neg (by omega), dif_neg (by omega), dif_pos i]
  exact pos_ext h0.symm h1.symm h2.symm h3.symm

/-- The right half of the bottom edge. -/
theorem src_botRight {s : Pos} (i : h.val = 65 ∧ 65 ≤ w.val ∧ w.val ≤ 128) (h0 : s.1.val = r.val)
    (h1 : s.2.1.val = (c.val + 1) % 5) (h2 : s.2.2.1.val = 0) (h3 : s.2.2.2.val = w.val - 65) : src r c h w = s := by
  rw [src, dif_neg (by omega), dif_neg (by omega), dif_neg (by omega), dif_neg (by omega), dif_pos i]
  exact pos_ext h0.symm h1.symm h2.symm h3.symm

/-- The left edge. -/
theorem src_left {s : Pos} (i : w.val = 0 ∧ 1 ≤ h.val ∧ h.val ≤ 64) (h0 : s.1.val = (r.val + 5) % 6)
    (h1 : s.2.1.val = (c.val + 4) % 5) (h2 : s.2.2.1.val = 63) (h3 : s.2.2.2.val = 64 - h.val) : src r c h w = s := by
  rw [src, dif_neg (by omega), dif_neg (by omega), dif_neg (by omega), dif_neg (by omega), dif_neg (by omega), dif_pos i]
  exact pos_ext h0.symm h1.symm h2.symm h3.symm

/-- The right edge. -/
theorem src_right {s : Pos} (i : w.val = 129 ∧ 2 ≤ h.val ∧ h.val ≤ 65) (h0 : s.1.val = (r.val + 5) % 6)
    (h1 : s.2.1.val = (c.val + 1) % 5) (h2 : s.2.2.1.val = 0) (h3 : s.2.2.2.val = 129 - h.val) : src r c h w = s := by
  rw [src, dif_neg (by omega), dif_neg (by omega), dif_neg (by omega), dif_neg (by omega), dif_neg (by omega),
    dif_neg (by omega), dif_pos i]
  exact pos_ext h0.symm h1.symm h2.symm h3.symm

/-- The five positions left over. -/
def Corner (h : Fin 66) (w : Fin 130) : Prop :=
  (h.val = 0 ∧ w.val = 0) ∨ (h.val = 0 ∧ w.val = 129) ∨ (h.val = 1 ∧ w.val = 129) ∨ (h.val = 65 ∧ w.val = 0)
    ∨ (h.val = 65 ∧ w.val = 1)

/-- The five positions left over show position zero. -/
theorem src_corner (i : Corner h w) : src r c h w = (0, 0, 0, 0) := by
  unfold Corner at i
  rw [src, dif_neg (by omega), dif_neg (by omega), dif_neg (by omega), dif_neg (by omega), dif_neg (by omega),
    dif_neg (by omega), dif_neg (by omega)]

/-- A padded position that shows `s` has the masked faces' element at `s`. -/
theorem pad_of {X : Fin 6 → Fin 5 → Fin 64 → Fin 128 → EReal} {s : Pos} (hs : src r c h w = s) :
    pad X r c h w = masked X s := by rw [pad, hs]

/-- Where the mask is open, the masked faces are the faces. -/
theorem masked_open {X : Fin 6 → Fin 5 → Fin 64 → Fin 128 → EReal} {s : Pos}
    (hs : s.2.2.1.val ≠ 0 ∨ (s.2.2.2.val ≠ 0 ∧ s.2.2.2.val ≠ 64)) : masked X s = X s.1 s.2.1 s.2.2.1 s.2.2.2 := by
  rw [masked, if_neg (by omega)]

/-- Where the mask is closed, the masked faces are zero. -/
theorem masked_closed {X : Fin 6 → Fin 5 → Fin 64 → Fin 128 → EReal} {s : Pos}
    (hs : s.2.2.1.val = 0 ∧ (s.2.2.2.val = 0 ∨ s.2.2.2.val = 64)) : masked X s = 0 := by
  rw [masked, if_pos hs]

/-- A sum against the reversing matrix picks the one term on the antidiagonal. -/
theorem flip_sum (g : Fin 64 → EReal) (j : Fin 64) :
    ∑ k : Fin 64, g k * (if k.val + j.val = 63 then 1 else 0) = g ⟨63 - j.val, by omega⟩ := by
  simp only [mul_ite, mul_one, mul_zero]
  rw [Finset.sum_eq_single ⟨63 - j.val, by omega⟩]
  · rw [if_pos (by simp only []; omega)]
  · intro k _ hk
    rw [if_neg]
    intro hkj
    exact hk (Fin.ext (by simp only []; omega))
  · intro hn; exact absurd (Finset.mem_univ _) hn

/-- Two indices of rank five are the same when their coordinates are. -/
theorem ix5_eq {n0 n1 n2 n3 n4 : ℕ} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  rw [Fin.ext ha, Fin.ext hb, Fin.ext hc, Fin.ext hd, Fin.ext he]

/-- Two indices of rank four are the same when their coordinates are. -/
theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

/-- Two indices of rank six are the same when their coordinates are. -/
theorem ix6_eq {n0 n1 n2 n3 n4 n5 : ℕ} {a a' : Fin n0} {b b' : Fin n1} {c c' : Fin n2} {d d' : Fin n3} {e e' : Fin n4}
    {f f' : Fin n5} (h0 : a.val = a'.val) (h1 : b.val = b'.val) (h2 : c.val = c'.val) (h3 : d.val = d'.val)
    (h4 : e.val = e'.val) (h5 : f.val = f'.val) : ix6 a b c d e f = ix6 a' b' c' d' e' f' := by
  rw [Fin.ext h0, Fin.ext h1, Fin.ext h2, Fin.ext h3, Fin.ext h4, Fin.ext h5]

/-- The padded faces of the whole argument: each batch entry by itself, entry by entry. -/
def padAll (X : (⟨6, ![8, 32, 6, 5, 64, 128]⟩ : Shape).Idx → EReal) : (⟨6, ![8, 32, 6, 5, 66, 130]⟩ : Shape).Idx → EReal := fun y =>
  pad (fun r c h w => X (ix6 (y 0) (y 1) r c h w)) (y 2) (y 3) (y 4) (y 5)

end Cert.Spec

end
-- ==== Proof.KernelPay.lean ====
/- What the kernel body's pure values hold, element by element, over the block `x` that the body loads. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelPay

open Cert.KernelIdeal Cert.KernelIdeal.Gen Idealize.ShloMosaic Idealize.ShloMosaic.TcCoe Idealize.SL.Sem

/-- The word that opens or closes the mask of image row 0, at each column. -/
theorem rowMask_word : ∀ w : Fin 128, BitVec.setWidth 32 (IntOp.andi (IntOp.cmpi CmpIPredicate.ne (BitVec.ofNat 32 w.val) 0#32)
    (IntOp.cmpi CmpIPredicate.ne (BitVec.ofNat 32 w.val) 64#32)) = if w.val = 0 ∨ w.val = 64 then 0#32 else 1#32 := by
  decide +kernel

/-- The word that opens or closes the mask of image column 0, at each row. -/
theorem colMask_word : ∀ h : Fin 64, BitVec.setWidth 32 (IntOp.cmpi CmpIPredicate.ne (BitVec.ofNat 32 h.val) 0#32)
    = if h.val = 0 then 0#32 else 1#32 := by
  decide +kernel

/-- The word at each place of the reversing matrix. -/
theorem flip_word : ∀ i j : Fin 64, BitVec.setWidth 32 (IntOp.cmpi CmpIPredicate.eq
    (IntOp.addi (BitVec.ofNat 32 i.val) (BitVec.ofNat 32 j.val)) 63#32) = if i.val + j.val = 63 then 1#32 else 0#32 := by
  decide +kernel

/-- The word 0 as an extended real. -/
theorem sitofp_zero : (FloatOps.sitofp (F := Ideal) FTy.f32 0#32) = (0 : EReal) := by
  show (((0#32).toInt : ℝ) : EReal) = 0
  norm_num

/-- The word 1 as an extended real. -/
theorem sitofp_one : (FloatOps.sitofp (F := Ideal) FTy.f32 1#32) = (1 : EReal) := by
  show (((1#32).toInt : ℝ) : EReal) = 1
  have : (1#32).toInt = 1 := by decide
  rw [this]; norm_num

/-- Image row 0 of every face, with columns 0 and 64 set to zero. -/
theorem pay2_at (x : Vec Ideal S8x6x5x64x128 .f32) (p : Fin 8) (r : Fin 6) (c : Fin 5) (w : Fin 128) :
    k0_pay2 (F := Ideal) x (ix4 p r c w) = if w.val = 0 ∨ w.val = 64 then 0 else x (ix5 p r c 0 w) := by
  pointwise [k0_pay2, k0_pay1]
  rw [rowMask_word]
  split_ifs
  · rw [sitofp_zero, mul_zero]
  · rw [sitofp_one, mul_one]

/-- The left half of image row 0. -/
theorem pay3_at (x : Vec Ideal S8x6x5x64x128 .f32) (p : Fin 8) (r : Fin 6) (c : Fin 5) (w : Fin 64) :
    k0_pay3 (F := Ideal) x (ix4 p r c w) = if w.val = 0 then 0 else x (ix5 p r c 0 ⟨w.val, by omega⟩) := by
  pointwise [k0_pay3]
  rw [pay2_at]
  refine if_congr (by simp only []; omega) rfl (congrArg x (Spec.ix5_eq rfl rfl rfl rfl ?_))
  simp only []

/-- The right half of image row 0. -/
theorem pay4_at (x : Vec Ideal S8x6x5x64x128 .f32) (p : Fin 8) (r : Fin 6) (c : Fin 5) (w : Fin 64) :
    k0_pay4 (F := Ideal) x (ix4 p r c w) = if w.val = 0 then 0 else x (ix5 p r c 0 ⟨64 + w.val, by omega⟩) := by
  pointwise [k0_pay4]
  rw [pay2_at]
  refine if_congr (by simp only []; omega) rfl (congrArg x (Spec.ix5_eq rfl rfl rfl rfl ?_))
  simp only []

/-- The left half of the last image row. -/
theorem pay5_at (x : Vec Ideal S8x6x5x64x128 .f32) (p : Fin 8) (r : Fin 6) (c : Fin 5) (w : Fin 64) :
    k0_pay5 (F := Ideal) x (ix4 p r c w) = x (ix5 p r c 63 ⟨w.val, by omega⟩) := by
  pointwise [k0_pay5, k0_pay1]

/-- Image column 0 of every face, with row 0 set to zero. -/
theorem pay6_at (x : Vec Ideal S8x6x5x64x128 .f32) (p : Fin 8) (r : Fin 6) (c : Fin 5) (h : Fin 64) :
    k0_pay6 (F := Ideal) x (ix4 p r c h) = if h.val = 0 then 0 else x (ix5 p r c h 0) := by
  pointwise [k0_pay6, k0_pay1]
  rw [colMask_word]
  split_ifs
  · rw [sitofp_zero, mul_zero]
  · rw [sitofp_one, mul_one]

/-- The reversing matrix: one on the antidiagonal, zero elsewhere. -/
theorem pay7_at (i j : Fin 64) : k0_pay7 (F := Ideal) (ix2 i j) = if i.val + j.val = 63 then 1 else 0 := by
  pointwise [k0_pay7]
  rw [flip_word]
  split_ifs
  · rw [sitofp_one]
  · rw [sitofp_zero]

/-- The right half of the last image row of the face before. -/
theorem pay8_at (x : Vec Ideal S8x6x5x64x128 .f32) (p : Fin 8) (r : Fin 6) (c : Fin 5) (w : Fin 64) :
    k0_pay8 (F := Ideal) x (ix4 p r c w) = x (ix5 p r ⟨(c.val + 4) % 5, by omega⟩ 63 ⟨64 + w.val, by omega⟩) := by
  pointwise [k0_pay8, k0_pay1]
  split_ifs <;> exact congrArg x (Spec.ix5_eq rfl rfl (by simp only []; omega) rfl rfl)

/-- The last image column of the face before. -/
theorem pay9_at (x : Vec Ideal S8x6x5x64x128 .f32) (p : Fin 8) (r : Fin 6) (c : Fin 5) (h : Fin 64) :
    k0_pay9 (F := Ideal) x (ix4 p r c h) = x (ix5 p r ⟨(c.val + 4) % 5, by omega⟩ h 127) := by
  pointwise [k0_pay9, k0_pay1]
  split_ifs <;> exact congrArg x (Spec.ix5_eq rfl rfl (by simp only []; omega) rfl rfl)

/-- The edge of the face below and after, reversed. -/
theorem pay10_at (v : FVec Ideal S8x6x5x64 .f32) (p : Fin 8) (r : Fin 6) (c : Fin 5) (j : Fin 64) :
    k0_pay10 (F := Ideal) v k0_pay7 (ix4 p r c j)
      = v (ix4 p ⟨(r.val + 1) % 6, by omega⟩ ⟨(c.val + 1) % 5, by omega⟩ ⟨63 - j.val, by omega⟩) := by
  pointwise [k0_pay10]
  simp only [pay7_at]
  refine (Spec.flip_sum _ j).trans ?_
  split_ifs <;> exact congrArg v (Spec.ix4_eq rfl (by simp only []; omega) (by simp only []; omega) rfl)

/-- The edge of the face after. -/
theorem pay11_at (v : FVec Ideal S8x6x5x64 .f32) (p : Fin 8) (r : Fin 6) (c : Fin 5) (j : Fin 64) :
    k0_pay11 (F := Ideal) v (ix4 p r c j) = v (ix4 p r ⟨(c.val + 1) % 5, by omega⟩ j) := by
  pointwise [k0_pay11]
  split_ifs <;> exact congrArg v (Spec.ix4_eq rfl rfl (by simp only []; omega) rfl)

/-- The edge of the face above and before, reversed. -/
theorem pay12_at (v : FVec Ideal S8x6x5x64 .f32) (p : Fin 8) (r : Fin 6) (c : Fin 5) (j : Fin 64) :
    k0_pay12 (F := Ideal) v k0_pay7 (ix4 p r c j)
      = v (ix4 p ⟨(r.val + 5) % 6, by omega⟩ ⟨(c.val + 4) % 5, by omega⟩ ⟨63 - j.val, by omega⟩) := by
  pointwise [k0_pay12]
  simp only [pay7_at]
  refine (Spec.flip_sum _ j).trans ?_
  split_ifs <;> exact congrArg v (Spec.ix4_eq rfl (by simp only []; omega) (by simp only []; omega) rfl)

/-- The edge of the face above and after, reversed. -/
theorem pay13_at (v : FVec Ideal S8x6x5x64 .f32) (p : Fin 8) (r : Fin 6) (c : Fin 5) (j : Fin 64) :
    k0_pay13 (F := Ideal) v k0_pay7 (ix4 p r c j)
      = v (ix4 p ⟨(r.val + 5) % 6, by omega⟩ ⟨(c.val + 1) % 5, by omega⟩ ⟨63 - j.val, by omega⟩) := by
  pointwise [k0_pay13]
  simp only [pay7_at]
  refine (Spec.flip_sum _ j).trans ?_
  split_ifs <;> exact congrArg v (Spec.ix4_eq rfl (by simp only []; omega) (by simp only []; omega) rfl)

/-- The edge of the face below, reversed, as a row. -/
theorem pay17_at (v : FVec Ideal S8x6x5x64 .f32) (p : Fin 8) (r : Fin 6) (c : Fin 5) (u : Fin 1) (j : Fin 64) :
    k0_pay17 (F := Ideal) k0_pay7 v (ix5 p r c u j)
      = v (ix4 p ⟨(r.val + 1) % 6, by omega⟩ c ⟨63 - j.val, by omega⟩) := by
  pointwise [k0_pay17]
  simp only [pay7_at]
  refine (Spec.flip_sum _ j).trans ?_
  split_ifs <;> exact congrArg v (Spec.ix4_eq rfl (by simp only []; omega) rfl rfl)

/-- Image row 0, as stored. -/
theorem pay14_at (v : FVec Ideal S8x6x5x128 .f32) (p : Fin 8) (r : Fin 6) (c : Fin 5) (u : Fin 1) (w : Fin 128) :
    k0_pay14 (F := Ideal) v (ix5 p r c u w) = v (ix4 p r c w) := by
  pointwise [k0_pay14]

/-- Image rows 1 to 63, as stored. -/
theorem pay15_at (x : Vec Ideal S8x6x5x64x128 .f32) (p : Fin 8) (r : Fin 6) (c : Fin 5) (h : Fin 63) (w : Fin 128) :
    k0_pay15 (F := Ideal) (k0_pay1 x) (ix5 p r c h w) = x (ix5 p r c ⟨1 + h.val, by omega⟩ w) := by
  pointwise [k0_pay15, k0_pay1]

/-- The top edge's left half, as stored. -/
theorem pay16_at (v : FVec Ideal S8x6x5x64 .f32) (p : Fin 8) (r : Fin 6) (c : Fin 5) (u : Fin 1) (j : Fin 64) :
    k0_pay16 (F := Ideal) v (ix5 p r c u j) = v (ix4 p r c j) := by
  pointwise [k0_pay16]

/-- The bottom edge's left half, as stored. -/
theorem pay18_at (v : FVec Ideal S8x6x5x64 .f32) (p : Fin 8) (r : Fin 6) (c : Fin 5) (u : Fin 1) (j : Fin 64) :
    k0_pay18 (F := Ideal) v (ix5 p r c u j) = v (ix4 p r c j) := by
  pointwise [k0_pay18]

/-- The bottom edge's right half, as stored. -/
theorem pay19_at (v : FVec Ideal S8x6x5x64 .f32) (p : Fin 8) (r : Fin 6) (c : Fin 5) (u : Fin 1) (j : Fin 64) :
    k0_pay19 (F := Ideal) v (ix5 p r c u j) = v (ix4 p r c j) := by
  pointwise [k0_pay19]

/-- The left edge, as stored. -/
theorem pay20_at (v : FVec Ideal S8x6x5x64 .f32) (p : Fin 8) (r : Fin 6) (c : Fin 5) (j : Fin 64) (u : Fin 1) :
    k0_pay20 (F := Ideal) v (ix5 p r c j u) = v (ix4 p r c j) := by
  pointwise [k0_pay20]

/-- The right edge, as stored. -/
theorem pay21_at (v : FVec Ideal S8x6x5x64 .f32) (p : Fin 8) (r : Fin 6) (c : Fin 5) (j : Fin 64) (u : Fin 1) :
    k0_pay21 (F := Ideal) v (ix5 p r c j u) = v (ix4 p r c j) := by
  pointwise [k0_pay21]

/-- The zero stored at the positions near the corners. -/
theorem pay22_at (y : S8x6x5x1x1.Idx) : k0_pay22 (F := Ideal) y = 0 := by
  idx_vars y
  pointwise [k0_pay22]

end Cert.KernelPay

end
-- ==== Proof.KernelBlock.lean ====
/- What one grid point of the kernel computes: its body stores thirteen pieces, and these pieces together are the padded
   faces of the block that the body loads. -/
module

public import proofs.«01_k».proof.Proof.Gen.KernelIdeal.Frame.RunA
public import proofs.«01_k».proof.Proof.KernelPay
public import Idealize.ShloMosaic.Lib.WholeRead
public import Idealize.ShloMosaic.Lib.Pipeline.ValueKit

@[expose] public section

set_option maxRecDepth 16384

noncomputable section

namespace Cert.KernelBlock

open Cert.KernelIdeal Cert.KernelIdeal.Gen Idealize.ShloMosaic Idealize.ShloMosaic.TcCoe Idealize.SL.Sem

/-- The padded faces of a block of eight batch entries, entry by entry. -/
def padBlock (x : Vec Ideal S8x6x5x64x128 .f32) : Vec Ideal S8x6x5x66x130 .f32 := fun y =>
  Spec.pad (fun r c h w => x (ix5 (y 0) r c h w)) (y 1) (y 2) (y 3) (y 4)

/-- The thirteen pieces that the body stores, the last one first. -/
def pieces (x : Vec Ideal S8x6x5x64x128 .f32) : List (View.Piece (Elt Ideal) S8x6x5x66x130 .f32) :=
  [⟨Rect.unit ![0, 0, 0, 65, 1] ![8, 6, 5, 1, 1] inb_S8x6x5x66x130_S8x6x5x1x1_0_0_0_65_1, k0_pay22 (F := Ideal)⟩,
    ⟨Rect.unit ![0, 0, 0, 65, 0] ![8, 6, 5, 1, 1] inb_S8x6x5x66x130_S8x6x5x1x1_0_0_0_65_0, k0_pay22 (F := Ideal)⟩,
    ⟨Rect.unit ![0, 0, 0, 1, 129] ![8, 6, 5, 1, 1] inb_S8x6x5x66x130_S8x6x5x1x1_0_0_0_1_129, k0_pay22 (F := Ideal)⟩,
    ⟨Rect.unit ![0, 0, 0, 0, 129] ![8, 6, 5, 1, 1] inb_S8x6x5x66x130_S8x6x5x1x1_0_0_0_0_129, k0_pay22 (F := Ideal)⟩,
    ⟨Rect.unit ![0, 0, 0, 0, 0] ![8, 6, 5, 1, 1] inb_S8x6x5x66x130_S8x6x5x1x1_0_0_0_0_0, k0_pay22 (F := Ideal)⟩,
    ⟨Rect.unit ![0, 0, 0, 2, 129] ![8, 6, 5, 64, 1] inb_S8x6x5x66x130_S8x6x5x64x1_0_0_0_2_129,
      k0_pay21 (k0_pay13 (k0_pay4 x) k0_pay7)⟩,
    ⟨Rect.unit ![0, 0, 0, 1, 0] ![8, 6, 5, 64, 1] inb_S8x6x5x66x130_S8x6x5x64x1_0_0_0_1_0,
      k0_pay20 (k0_pay12 (k0_pay5 x) k0_pay7)⟩,
    ⟨Rect.unit ![0, 0, 0, 65, 65] ![8, 6, 5, 1, 64] inb_S8x6x5x66x130_S8x6x5x1x64_0_0_0_65_65,
      k0_pay19 (k0_pay11 (k0_pay3 x))⟩,
    ⟨Rect.unit ![0, 0, 0, 65, 2] ![8, 6, 5, 1, 64] inb_S8x6x5x66x130_S8x6x5x1x64_0_0_0_65_2,
      k0_pay18 (k0_pay10 (k0_pay6 x) k0_pay7)⟩,
    ⟨Rect.unit ![0, 0, 0, 0, 65] ![8, 6, 5, 1, 64] inb_S8x6x5x66x130_S8x6x5x1x64_0_0_0_0_65,
      k0_pay17 k0_pay7 (k0_pay9 x)⟩,
    ⟨Rect.unit ![0, 0, 0, 0, 1] ![8, 6, 5, 1, 64] inb_S8x6x5x66x130_S8x6x5x1x64_0_0_0_0_1, k0_pay16 (k0_pay8 x)⟩,
    ⟨Rect.unit ![0, 0, 0, 2, 1] ![8, 6, 5, 63, 128] inb_S8x6x5x66x130_S8x6x5x63x128_0_0_0_2_1, k0_pay15 (k0_pay1 x)⟩,
    ⟨Rect.unit ![0, 0, 0, 1, 1] ![8, 6, 5, 1, 128] inb_S8x6x5x66x130_S8x6x5x1x128_0_0_0_1_1, k0_pay14 (k0_pay2 x)⟩]

/-- A load of the whole of a buffer that holds `x` gives `x`. -/
theorem load_whole (arg1 : Memref sig .tc .vmem S8x6x5x64x128 .f32) (harg1 : arg1.IsWhole) (x : Vec Ideal S8x6x5x64x128 .f32) :
    View.readAt (Elt Ideal) arg1.view
      (Rect.unit ![0, 0, 0, 0, 0] S8x6x5x64x128.size inb_S8x6x5x64x128_S8x6x5x64x128_0_0_0_0_0).toLoadRect (harg1.unread x) = x := by
  funext j
  refine (harg1.readAt_unread x _ j).trans (congrArg x ?_)
  funext a
  apply Fin.ext
  fin_cases a <;> simp [LoadRect.idx]

/-- The body stores exactly these pieces. -/
theorem run_pieces (c : Dev nD) (i : grid0.Coords) (arg1 : Memref sig .tc .vmem S8x6x5x64x128 .f32) (harg1 : arg1.IsWhole)
    (arg2 : Memref sig .tc .vmem S8x6x5x66x130 .f32) (harg2 : arg2.IsWhole) (x : Vec Ideal S8x6x5x64x128 .f32) :
    (kernelRun0_A c i arg1 harg1 arg2 harg2 x).1 = pieces x := by
  dsimp only [kernelRun0_A]
  unfold kernelRun0_A.sl.r_8 kernelRun0_A.sl.r_9 kernelRun0_A.sl.r_10 kernelRun0_A.sl.r_11 kernelRun0_A.sl.r_12
  unfold kernelRun0_A.sl.r kernelRun0_A.sl.r_1 kernelRun0_A.sl.r_2 kernelRun0_A.sl.r_3 kernelRun0_A.sl.r_4 kernelRun0_A.sl.r_5
    kernelRun0_A.sl.r_6 kernelRun0_A.sl.r_7
  rw [load_whole]
  rfl

/-- A place of the block lies in a piece when its image row and column do: every piece spans the other axes. -/
theorem mem_piece (y : S8x6x5x66x130.Idx) (h w m n : ℕ) (inb) (hh : h ≤ (y 3).val ∧ (y 3).val < h + m)
    (hw : w ≤ (y 4).val ∧ (y 4).val < w + n) :
    y ∈ (Rect.unit (s := S8x6x5x66x130) ![0, 0, 0, h, w] ![8, 6, 5, m, n] inb).set := by
  rw [Rect.mem_set_unit]
  intro a
  fin_cases a
  · exact ⟨Nat.zero_le _, (Nat.zero_add 8).symm ▸ (y 0).isLt⟩
  · exact ⟨Nat.zero_le _, (Nat.zero_add 6).symm ▸ (y 1).isLt⟩
  · exact ⟨Nat.zero_le _, (Nat.zero_add 5).symm ▸ (y 2).isLt⟩
  · exact hh
  · exact hw

/-- Every place of the block lies in some piece. -/
theorem cover (x : Vec Ideal S8x6x5x64x128 .f32) (y : S8x6x5x66x130.Idx) : ∃ p ∈ pieces x, y ∈ p.1.set := by
  have h3 : (y 3).val < 66 := (y 3).isLt
  have h4 : (y 4).val < 130 := (y 4).isLt
  unfold pieces
  simp only [List.mem_cons, List.not_mem_nil, or_false, exists_eq_or_imp, exists_eq_left]
  by_cases c1 : (y 3).val = 65 ∧ (y 4).val = 1
  · exact Or.inl (mem_piece y _ _ _ _ _ (by omega) (by omega))
  refine Or.inr ?_
  by_cases c2 : (y 3).val = 65 ∧ (y 4).val = 0
  · exact Or.inl (mem_piece y _ _ _ _ _ (by omega) (by omega))
  refine Or.inr ?_
  by_cases c3 : (y 3).val = 1 ∧ (y 4).val = 129
  · exact Or.inl (mem_piece y _ _ _ _ _ (by omega) (by omega))
  refine Or.inr ?_
  by_cases c4 : (y 3).val = 0 ∧ (y 4).val = 129
  · exact Or.inl (mem_piece y _ _ _ _ _ (by omega) (by omega))
  refine Or.inr ?_
  by_cases c5 : (y 3).val = 0 ∧ (y 4).val = 0
  · exact Or.inl (mem_piece y _ _ _ _ _ (by omega) (by omega))
  refine Or.inr ?_
  by_cases c6 : 2 ≤ (y 3).val ∧ (y 4).val = 129
  · exact Or.inl (mem_piece y _ _ _ _ _ (by omega) (by omega))
  refine Or.inr ?_
  by_cases c7 : 1 ≤ (y 3).val ∧ (y 3).val ≤ 64 ∧ (y 4).val = 0
  · exact Or.inl (mem_piece y _ _ _ _ _ (by omega) (by omega))
  refine Or.inr ?_
  by_cases c8 : (y 3).val = 65 ∧ 65 ≤ (y 4).val
  · exact Or.inl (mem_piece y _ _ _ _ _ (by omega) (by omega))
  refine Or.inr ?_
  by_cases c9 : (y 3).val = 65
  · exact Or.inl (mem_piece y _ _ _ _ _ (by omega) (by omega))
  refine Or.inr ?_
  by_cases c10 : (y 3).val = 0 ∧ 65 ≤ (y 4).val
  · exact Or.inl (mem_piece y _ _ _ _ _ (by omega) (by omega))
  refine Or.inr ?_
  by_cases c11 : (y 3).val = 0
  · exact Or.inl (mem_piece y _ _ _ _ _ (by omega) (by omega))
  refine Or.inr ?_
  by_cases c12 : 2 ≤ (y 3).val
  · exact Or.inl (mem_piece y _ _ _ _ _ (by omega) (by omega))
  exact Or.inr (mem_piece y _ _ _ _ _ (by omega) (by omega))

/-- Zero under a condition that says the mask is closed at `s`, and otherwise the face's element at `s`, is the masked faces'
    element at `s`. -/
theorem masked_if {X : Fin 6 → Fin 5 → Fin 64 → Fin 128 → EReal} {s : Spec.Pos} {P : Prop} [Decidable P] {a : EReal}
    (hp : P ↔ s.2.2.1.val = 0 ∧ (s.2.2.2.val = 0 ∨ s.2.2.2.val = 64)) (ha : a = X s.1 s.2.1 s.2.2.1 s.2.2.2) :
    (if P then 0 else a) = Spec.masked X s := by
  by_cases h : P
  · rw [if_pos h, Spec.masked_closed (hp.mp h)]
  · rw [if_neg h, ha, Spec.masked_open (by have := mt hp.mpr h; omega)]

/-- Where the mask is open, the face's element at `s` is the masked faces' element at `s`. -/
theorem masked_val {X : Fin 6 → Fin 5 → Fin 64 → Fin 128 → EReal} {s : Spec.Pos} {a : EReal}
    (hs : s.2.2.1.val ≠ 0 ∨ (s.2.2.2.val ≠ 0 ∧ s.2.2.2.val ≠ 64)) (ha : a = X s.1 s.2.1 s.2.2.1 s.2.2.2) :
    a = Spec.masked X s :=
  ha.trans (Spec.masked_open hs).symm

/-- The pieces together are the padded faces of the block. -/
theorem canon_pieces (x : Vec Ideal S8x6x5x64x128 .f32) (y : S8x6x5x66x130.Idx) : View.canon (pieces x) y = padBlock x y := by
  idx_vars y
  unfold pieces
  canon_tiles z h using (cover x _)
  all_goals
    idx_vars z
    clear z0_lt z1_lt z2_lt z3_lt z4_lt
    replace h0 : y0.val = z0.val := h0
    replace h1 : y1.val = z1.val := h1
    replace h2 : y2.val = z2.val := h2
    show _ = Spec.pad (fun r c h w => x (ix5 y0 r c h w)) y1 y2 y3 y4
  case piece0 =>
    replace h3 : y3.val = 65 + z3.val := h3
    replace h4 : y4.val = 1 + z4.val := h4
    rw [KernelPay.pay22_at, Spec.pad_of (Spec.src_corner (by unfold Spec.Corner; omega))]
    exact (Spec.masked_closed ⟨rfl, Or.inl rfl⟩).symm
  case piece1 =>
    replace h3 : y3.val = 65 + z3.val := h3
    replace h4 : y4.val = z4.val := h4
    rw [KernelPay.pay22_at, Spec.pad_of (Spec.src_corner (by unfold Spec.Corner; omega))]
    exact (Spec.masked_closed ⟨rfl, Or.inl rfl⟩).symm
  case piece2 =>
    replace h3 : y3.val = 1 + z3.val := h3
    replace h4 : y4.val = 129 + z4.val := h4
    rw [KernelPay.pay22_at, Spec.pad_of (Spec.src_corner (by unfold Spec.Corner; omega))]
    exact (Spec.masked_closed ⟨rfl, Or.inl rfl⟩).symm
  case piece3 =>
    replace h3 : y3.val = z3.val := h3
    replace h4 : y4.val = 129 + z4.val := h4
    rw [KernelPay.pay22_at, Spec.pad_of (Spec.src_corner (by unfold Spec.Corner; omega))]
    exact (Spec.masked_closed ⟨rfl, Or.inl rfl⟩).symm
  case piece4 =>
    replace h3 : y3.val = z3.val := h3
    replace h4 : y4.val = z4.val := h4
    rw [KernelPay.pay22_at, Spec.pad_of (Spec.src_corner (by unfold Spec.Corner; omega))]
    exact (Spec.masked_closed ⟨rfl, Or.inl rfl⟩).symm
  case piece5 =>
    replace h3 : y3.val = 2 + z3.val := h3
    replace h4 : y4.val = 129 + z4.val := h4
    rw [KernelPay.pay21_at, KernelPay.pay13_at, KernelPay.pay4_at,
      Spec.pad_of (Spec.src_right (s := (⟨(z1.val + 5) % 6, by omega⟩, ⟨(z2.val + 1) % 5, by omega⟩, ⟨0, by omega⟩, ⟨64 + (63 - z3.val), by omega⟩))
        (by omega) (by dsimp only <;> omega) (by dsimp only <;> omega) (by dsimp only <;> omega) (by dsimp only <;> omega))]
    exact masked_if (by dsimp only; omega) (congrArg x (Spec.ix5_eq h0.symm (by dsimp only <;> omega) (by dsimp only <;> omega)
      (by dsimp only <;> omega) (by dsimp only <;> omega)))
  case piece6 =>
    replace h3 : y3.val = 1 + z3.val := h3
    replace h4 : y4.val = z4.val := h4
    rw [KernelPay.pay20_at, KernelPay.pay12_at, KernelPay.pay5_at,
      Spec.pad_of (Spec.src_left (s := (⟨(z1.val + 5) % 6, by omega⟩, ⟨(z2.val + 4) % 5, by omega⟩, ⟨63, by omega⟩, ⟨63 - z3.val, by omega⟩))
        (by omega) (by dsimp only <;> omega) (by dsimp only <;> omega) (by dsimp only <;> omega) (by dsimp only <;> omega))]
    exact masked_val (by dsimp only; omega) (congrArg x (Spec.ix5_eq h0.symm (by dsimp only <;> omega) (by dsimp only <;> omega)
      (by dsimp only <;> omega) (by dsimp only <;> omega)))
  case piece7 =>
    replace h3 : y3.val = 65 + z3.val := h3
    replace h4 : y4.val = 65 + z4.val := h4
    rw [KernelPay.pay19_at, KernelPay.pay11_at, KernelPay.pay3_at,
      Spec.pad_of (Spec.src_botRight (s := (⟨z1.val, by omega⟩, ⟨(z2.val + 1) % 5, by omega⟩, ⟨0, by omega⟩, ⟨z4.val, by omega⟩))
        (by omega) (by dsimp only <;> omega) (by dsimp only <;> omega) (by dsimp only <;> omega) (by dsimp only <;> omega))]
    exact masked_if (by dsimp only; omega) (congrArg x (Spec.ix5_eq h0.symm (by dsimp only <;> omega) (by dsimp only <;> omega)
      (by dsimp only <;> omega) (by dsimp only <;> omega)))
  case piece8 =>
    replace h3 : y3.val = 65 + z3.val := h3
    replace h4 : y4.val = 2 + z4.val := h4
    rw [KernelPay.pay18_at, KernelPay.pay10_at, KernelPay.pay6_at]
    by_cases hz : z4.val = 63
    · rw [if_pos (by dsimp only; omega),
        Spec.pad_of (Spec.src_botRight (s := (y1, ⟨(y2.val + 1) % 5, by omega⟩, 0, 0)) (by omega) rfl rfl rfl
          (by rw [h4, hz]; rfl))]
      exact (Spec.masked_closed ⟨rfl, Or.inl rfl⟩).symm
    · rw [Spec.pad_of (Spec.src_botLeft (s := (⟨(z1.val + 1) % 6, by omega⟩, ⟨(z2.val + 1) % 5, by omega⟩,
        ⟨63 - z4.val, by omega⟩, ⟨0, by omega⟩)) (by omega) (by dsimp only <;> omega) (by dsimp only <;> omega)
        (by dsimp only <;> omega) (by dsimp only <;> omega))]
      exact masked_if (by dsimp only; omega) (congrArg x (Spec.ix5_eq h0.symm (by dsimp only <;> omega)
        (by dsimp only <;> omega) (by dsimp only <;> omega) (by dsimp only <;> omega)))
  case piece9 =>
    replace h3 : y3.val = z3.val := h3
    replace h4 : y4.val = 65 + z4.val := h4
    rw [KernelPay.pay17_at, KernelPay.pay9_at,
      Spec.pad_of (Spec.src_topRight (s := (⟨(z1.val + 1) % 6, by omega⟩, ⟨(z2.val + 4) % 5, by omega⟩, ⟨63 - z4.val, by omega⟩, ⟨127, by omega⟩))
        (by omega) (by dsimp only <;> omega) (by dsimp only <;> omega) (by dsimp only <;> omega) (by dsimp only <;> omega))]
    exact masked_val (by dsimp only; omega) (congrArg x (Spec.ix5_eq h0.symm (by dsimp only <;> omega) (by dsimp only <;> omega)
      (by dsimp only <;> omega) (by dsimp only <;> omega)))
  case piece10 =>
    replace h3 : y3.val = z3.val := h3
    replace h4 : y4.val = 1 + z4.val := h4
    rw [KernelPay.pay16_at, KernelPay.pay8_at,
      Spec.pad_of (Spec.src_topLeft (s := (⟨z1.val, by omega⟩, ⟨(z2.val + 4) % 5, by omega⟩, ⟨63, by omega⟩, ⟨64 + z4.val, by omega⟩))
        (by omega) (by dsimp only <;> omega) (by dsimp only <;> omega) (by dsimp only <;> omega) (by dsimp only <;> omega))]
    exact masked_val (by dsimp only; omega) (congrArg x (Spec.ix5_eq h0.symm (by dsimp only <;> omega) (by dsimp only <;> omega)
      (by dsimp only <;> omega) (by dsimp only <;> omega)))
  case piece11 =>
    replace h3 : y3.val = 2 + z3.val := h3
    replace h4 : y4.val = 1 + z4.val := h4
    rw [KernelPay.pay15_at,
      Spec.pad_of (Spec.src_interior (s := (⟨z1.val, by omega⟩, ⟨z2.val, by omega⟩, ⟨1 + z3.val, by omega⟩, ⟨z4.val, by omega⟩))
        (by omega) (by dsimp only <;> omega) (by dsimp only <;> omega) (by dsimp only <;> omega) (by dsimp only <;> omega))]
    exact masked_val (by dsimp only; omega) (congrArg x (Spec.ix5_eq h0.symm (by dsimp only <;> omega) (by dsimp only <;> omega)
      (by dsimp only <;> omega) (by dsimp only <;> omega)))
  case piece12 =>
    replace h3 : y3.val = 1 + z3.val := h3
    replace h4 : y4.val = 1 + z4.val := h4
    rw [KernelPay.pay14_at, KernelPay.pay2_at,
      Spec.pad_of (Spec.src_interior (s := (⟨z1.val, by omega⟩, ⟨z2.val, by omega⟩, ⟨0, by omega⟩, ⟨z4.val, by omega⟩))
        (by omega) (by dsimp only <;> omega) (by dsimp only <;> omega) (by dsimp only <;> omega) (by dsimp only <;> omega))]
    exact masked_if (by dsimp only; omega) (congrArg x (Spec.ix5_eq h0.symm (by dsimp only <;> omega) (by dsimp only <;> omega)
      (by dsimp only <;> omega) (by dsimp only <;> omega)))

end Cert.KernelBlock

end
-- ==== Proof.KernelFrame.lean ====
/- The run of the kernel: every grid point leaves the padded faces of its block in the output's staging buffer, so every
   execution of the program ends with the output array as the grid points wrote it, with the argument as launched and with
   no semaphore raised. -/
module

public import proofs.«01_k».proof.Proof.KernelBlock
public import Idealize.ShloMosaic.Lib.Claim

@[expose] public section

set_option maxRecDepth 16384

noncomputable section

namespace Cert.KernelFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the staging buffers hold: the input's its block, the output's the padded faces of that block; the arrays are as the
    region finds them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => KernelBlock.padBlock (iblk m c 0 t)
  Φ _ := Pipeline.ΦA spec0 c
  q _ := fullShare
  owed _ := 0

/-- The arrays are as the region finds them. -/
theorem array_entry (c : Dev nD) (w : Fin cfg0.W) : (dats m 0 c).A w = V m c (Pipeline.arrRef spec0 w) := by
  dsimp only [dats]

/-- The body leaves the input's block in place. -/
theorem after_in (c : Dev nD) (t : Fin cfg0.N) : (dats m 0 c).after 0 t = iblk m c 0 t := by dsimp only [dats]

/-- The body leaves the padded faces of its block. -/
theorem after_out (c : Dev nD) (t : Fin cfg0.N) : (dats m 0 c).after 1 t = KernelBlock.padBlock (iblk m c 0 t) := by
  dsimp only [dats]

/-- The body finds the input's block in the input's staging buffer. -/
theorem before_in (c : Dev nD) (t : Fin cfg0.N) (d) : (dats m 0 c).before 0 t d = iblk m c 0 t :=
  before0_0_of m (dats m 0 c) (array_entry m c 0) (after_in m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What the body gives back at a grid point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- A buffer that the body's stores went into reads as the padded faces of the loaded block. -/
theorem read_stores (c : Dev nD) (i : grid0.Coords) (arg1 : Memref sig .tc .vmem S8x6x5x64x128 .f32) (harg1 : arg1.IsWhole)
    (arg2 : Memref sig .tc .vmem S8x6x5x66x130 .f32) (harg2 : arg2.IsWhole) (x : Vec Ideal S8x6x5x64x128 .f32)
    (v : View sig .tc .vmem S8x6x5x66x130 .f32) (f : v.ty.Contents (Elt Ideal)) :
    v.read (Elt Ideal) (v.writes (Elt Ideal) f (kernelRun0_A c i arg1 harg1 arg2 harg2 x).1) = KernelBlock.padBlock x := by
  rw [KernelBlock.run_pieces, View.read_writes_eq_canon _ _ _ (KernelBlock.cover x)]
  funext y
  exact KernelBlock.canon_pieces x y

/-- The body at any grid point takes what it is called with to what it gives back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply ((kernelRun0_A c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact read_stores c _ _ _ _ _ _ _ _

/-- The body that the pipeline calls at a grid point is the printed body at that point's staging buffers. -/
theorem body_row (t : Fin cfg0.N) :
    defs₀ (F := Ideal) .tc cfg0.body (cfg0.bodyArgs t (cfg0.slots t)) = bodyAt0 t := by
  unfold defs₀; rw [Defs.onTc_tc]

/-- The body's obligation towards the pipeline, at every grid point. -/
theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
set_option maxHeartbeats 800000 in
/-- Every execution of the program ends, with the pipeline's arrays as its grid points left them, every other buffer as the
    last reshape left it, and every semaphore counter at zero. -/
theorem run_counters : θ_run defs (onTc (τ := τ) (main (F := Ideal))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := array_entry m) (hΦ := fun _ _ => rfl)

/-- The same without the counters. -/
theorem run : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_counters m ρ)

/-- Every execution ends with the argument as launched. -/
theorem unchanged : θ_run defs (onTc (τ := τ) (main (F := Ideal))) ⟨m, fun _ => 0, ρ⟩ (fun r => ∀ c : Dev nD,
    r.2.mem ((c.tc : Thread nD τ).loc main_arg0) = m ((c.tc : Thread nD τ).loc main_arg0)) :=
  frame_of m ρ (dats m) (array_entry m) (run m ρ)

/-- Every execution ends with the argument as launched and with every semaphore counter at zero. -/
theorem quiescent : θ_run defs (onTc (τ := τ) (main (F := Ideal))) ⟨m, fun _ => 0, ρ⟩ (fun r =>
    (∀ c : Dev nD, r.2.mem ((c.tc : Thread nD τ).loc main_arg0) = m ((c.tc : Thread nD τ).loc main_arg0))
      ∧ r.2.sem = fun _ => 0) :=
  θ_run_and (unchanged m ρ) ((θ_run defs _ _).mono (fun _ h => h.2) (run_counters m ρ))

end Cert.KernelFrame

end
-- ==== Proof.KernelValue.lean ====
/- What the kernel program's result holds: the padded faces of the argument, entry by entry. -/
module

public import proofs.«01_k».proof.Proof.KernelFrame
public import Idealize.ShloMosaic.Lib.Pipeline.ValueKit
public import Idealize.ShloMosaic.Lib.StableHlo.ReadAt

@[expose] public section

set_option maxRecDepth 16384

noncomputable section

namespace Cert.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The padded faces of all batch entries, entry by entry. -/
def padArray (X : Vec Ideal S256x6x5x64x128 .f32) : Vec Ideal S256x6x5x66x130 .f32 := fun y =>
  Spec.pad (fun r c h w => X (ix5 (y 0) r c h w)) (y 1) (y 2) (y 3) (y 4)

/-- Both windows take block `t` of eight batch entries at grid point `t`, and nothing else moves. -/
theorem index_at (t : Fin grid0.N) :
    (win0_0.index t (0 : Fin 5) = t.val ∧ win0_0.index t (1 : Fin 5) = 0 ∧ win0_0.index t (2 : Fin 5) = 0
      ∧ win0_0.index t (3 : Fin 5) = 0 ∧ win0_0.index t (4 : Fin 5) = 0)
    ∧ (win0_1.index t (0 : Fin 5) = t.val ∧ win0_1.index t (1 : Fin 5) = 0 ∧ win0_1.index t (2 : Fin 5) = 0
      ∧ win0_1.index t (3 : Fin 5) = 0 ∧ win0_1.index t (4 : Fin 5) = 0) := by
  revert t
  decide +kernel

/-- The input's block at grid point `t`, at an entry, is the array's entry eight `t` batch entries further on. -/
theorem block_in (c : Dev nD) (t : Fin cfg0.N) (p : Fin 8) (r : Fin 6) (f : Fin 5) (h : Fin 64) (w : Fin 128) (b : Fin 256)
    (hb : b.val = t.val * 8 + p.val) : iblk m c 0 t (ix5 p r f h w) = V m c main_v0 (ix5 b r f h w) := by
  blk_ext [iblk, index_at t]

/-- The output's block at grid point `t`, at an entry, lies in the array eight `t` batch entries further on. -/
theorem block_out (t : Fin cfg0.N) (p : Fin 8) (r : Fin 6) (f : Fin 5) (h : Fin 66) (w : Fin 130) (b : Fin 256)
    (hb : b.val = t.val * 8 + p.val) : ((cfg0.win 1).blk t).view.emb (ix5 p r f h w) = (ix5 b r f h w : S256x6x5x66x130.Idx) := by
  blk_ext [index_at t]

/-- After the last grid point the output array is the padded faces of the array that the kernel read. -/
theorem array_end (c : Dev nD) : (KernelFrame.dats m 0 c).arrAt 1 (cfgs 0).N = padArray (V m c main_v0) := by
  refine (KernelFrame.dats m 0 c).arrAt_eq_of_covers 1 _ (by decide +kernel) fun t _ y => ?_
  blk_simp
  rw [KernelFrame.after_out]
  have ht : t.val < 32 := t.isLt
  obtain ⟨p, r, f, h, w, rfl⟩ : ∃ (p : Fin 8) (r : Fin 6) (f : Fin 5) (h : Fin 66) (w : Fin 130),
      y = (ix5 p r f h w : S8x6x5x66x130.Idx) := ⟨y 0, y 1, y 2, y 3, y 4, (ix5_eta y).symm⟩
  have hb := block_out t p r f h w ⟨t.val * 8 + p.val, by omega⟩ rfl
  refine Eq.trans ?_ (congrArg (padArray (V m c main_v0)) hb).symm
  show Spec.pad (fun r f h w => iblk m c 0 t (ix5 p r f h w)) r f h w
    = Spec.pad (fun r f h w => V m c main_v0 (ix5 ⟨t.val * 8 + p.val, by omega⟩ r f h w)) r f h w
  refine congrArg (fun X => Spec.pad X r f h w) ?_
  funext r f h w
  exact block_in m c t p r f h w _ rfl

/-- The array that the kernel reads is the argument with its two batch axes joined. -/
theorem entry_at (c : Dev nD) (a : Fin 8) (b : Fin 32) (p : Fin 256) (hp : p.val = a.val * 32 + b.val) (r : Fin 6) (f : Fin 5)
    (h : Fin 64) (w : Fin 128) :
    (V m c main_v0 : S256x6x5x64x128.Idx → EReal) (ix5 p r f h w)
      = (m ((c.tc : Thread nD τ).loc main_arg0) : S8x32x6x5x64x128.Idx → EReal) (ix6 a b r f h w) := by
  unfold V V0 hostOps0
  simp only [List.flatten_cons, List.flatten_nil, List.append_nil]
  after_reads_at
  exact congrArg (m ((c.tc : Thread nD τ).loc main_arg0) : S8x32x6x5x64x128.Idx → EReal)
    (Spec.ix6_eq (by dsimp only; omega) (by dsimp only; omega) rfl rfl rfl rfl)

/-- The result is the output array with its batch axis split in two. -/
theorem tail_at (c : Dev nD) (a : Fin 8) (b : Fin 32) (p : Fin 256) (hp : p.val = a.val * 32 + b.val) (r : Fin 6) (f : Fin 5)
    (h : Fin 66) (w : Fin 130) :
    (Pipeline.afterTail₀ cfgs (KernelFrame.dats m) 0 (V0 m) [hostOps1] c main_v2 : S8x32x6x5x66x130.Idx → EReal)
        (ix6 a b r f h w)
      = ((KernelFrame.dats m 0 c).arrAt 1 (cfgs 0).N : S256x6x5x66x130.Idx → EReal) (ix5 p r f h w) := by
  have e : Pipeline.withArrays (cfgs 0).spec c (V0 m c) (fun w => (KernelFrame.dats m 0 c).arrAt w (cfgs 0).N)
      (Proc.devRef .tc main_v1) = (KernelFrame.dats m 0 c).arrAt 1 (cfgs 0).N :=
    Pipeline.withArrays_arr (cfgs 0).spec launch0.win.arr_inj c (V0 m c) _ 1
  rw [← e]
  unfold Pipeline.afterTail₀
  simp only [List.flatten_cons, List.flatten_nil, List.append_nil]
  generalize Pipeline.withArrays (cfgs 0).spec c (V0 m c) (fun w => (KernelFrame.dats m 0 c).arrAt w (cfgs 0).N) = W
  after_reads_at
  exact congrArg (W (Proc.devRef .tc main_v1) : S256x6x5x66x130.Idx → EReal) (Spec.ix5_eq hp.symm rfl rfl rfl rfl)

/-- The result of the program is the padded faces of its argument. -/
theorem result_eq (c : Dev nD) :
    Pipeline.afterTail₀ cfgs (KernelFrame.dats m) 0 (V0 m) [hostOps1] c main_v2
      = Spec.padAll (m ((c.tc : Thread nD τ).loc main_arg0)) := by
  funext y
  obtain ⟨a, b, r, f, h, w, rfl⟩ : ∃ (a : Fin 8) (b : Fin 32) (r : Fin 6) (f : Fin 5) (h : Fin 66) (w : Fin 130),
      y = (ix6 a b r f h w : S8x32x6x5x66x130.Idx) := ⟨y 0, y 1, y 2, y 3, y 4, y 5, (ix6_eta y).symm⟩
  rw [tail_at m c a b ⟨a.val * 32 + b.val, by omega⟩ rfl, array_end]
  show Spec.pad (fun r f h w => V m c main_v0 (ix5 ⟨a.val * 32 + b.val, by omega⟩ r f h w)) r f h w
    = Spec.pad (fun r f h w => (m ((c.tc : Thread nD τ).loc main_arg0) : S8x32x6x5x64x128.Idx → EReal) (ix6 a b r f h w)) r f h w
  refine congrArg (fun X => Spec.pad X r f h w) ?_
  funext r f h w
  exact entry_at m c a b _ rfl r f h w

/-- Every execution of the program ends with the padded faces of the argument in the result and with the argument as
    launched. -/
theorem run : θ_run defs (onTc (τ := τ) (main (F := Ideal))) ⟨m, fun _ => 0, ρ⟩ (fun r => ∀ c : Dev nD,
    r.2.mem ((c.tc : Thread nD τ).loc main_v2) = Spec.padAll (m ((c.tc : Thread nD τ).loc main_arg0))
      ∧ r.2.mem ((c.tc : Thread nD τ).loc main_arg0) = m ((c.tc : Thread nD τ).loc main_arg0)) :=
  (θ_run defs _ _).mono (fun _ h c => ⟨((h.1 c).2 main_v2 (Pipeline.mem_restRefs_of main_v2 (by decide) (by decide))).trans
    (result_eq m c), h.2 c⟩) (θ_run_and (KernelFrame.run m ρ) (KernelFrame.unchanged m ρ))

end Cert.KernelValue

end
-- ==== Proof.RefRun.lean ====
/- The reference program's operations, cut into nine stretches, and its run: every result buffer ends holding what the
   stretches, one after the other, leave in it. -/
module

public import proofs.«01_k».proof.Proof.Gen.ReferenceIdeal
public import Idealize.ShloMosaic.Lib.StableHlo.RunRead
public import Idealize.ShloMosaic.Lib.Quiescent

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A tensor of face positions, face row by face column by image row by image column. -/
abbrev Faces (α : Type) : Type := S6x5x64x128.Idx → α

/-- One last face column put before four: the second half of a shift by one along the face columns. -/
def rollC (a : S6x1x64x128.Idx → BitVec 32) (b : S6x4x64x128.Idx → BitVec 32) : Faces (BitVec 32) :=
  concatenate S6x5x64x128 1 [⟨S6x1x64x128, a⟩, ⟨S6x4x64x128, b⟩] concatenates_S6x1x64x128_S6x4x64x128_S6x5x64x128_d1

/-- One first face column put after four: the second half of a shift by minus one along the face columns. -/
def rollCBack (a : S6x4x64x128.Idx → BitVec 32) (b : S6x1x64x128.Idx → BitVec 32) : Faces (BitVec 32) :=
  concatenate S6x5x64x128 1 [⟨S6x4x64x128, a⟩, ⟨S6x1x64x128, b⟩] concatenates_S6x4x64x128_S6x1x64x128_S6x5x64x128_d1

/-- One last face row put before five: the second half of a shift by one along the face rows. -/
def rollR (a : S1x5x64x128.Idx → BitVec 32) (b : S5x5x64x128.Idx → BitVec 32) : Faces (BitVec 32) :=
  concatenate S6x5x64x128 0 [⟨S1x5x64x128, a⟩, ⟨S5x5x64x128, b⟩] concatenates_S1x5x64x128_S5x5x64x128_S6x5x64x128_d0

/-- One first face row put after five: the second half of a shift by minus one along the face rows. -/
def rollRBack (a : S5x5x64x128.Idx → BitVec 32) (b : S1x5x64x128.Idx → BitVec 32) : Faces (BitVec 32) :=
  concatenate S6x5x64x128 0 [⟨S5x5x64x128, a⟩, ⟨S1x5x64x128, b⟩] concatenates_S5x5x64x128_S1x5x64x128_S6x5x64x128_d0

/-- Operations 0 to 15 of the reference, in order: the masked argument, flattened. -/
abbrev opsFlat : List (HloOp τ sig (Elt F)) :=
  [ nullary main_cst (constant S_ .f32 0x3F800000#32),
    unary main_cst main_v0 (broadcastInDim S64x128 ![] bcast_S_S64x128 : (⟨S_, .f32⟩ : BufTy).Contents (Elt F) → (⟨S64x128, .f32⟩ : BufTy).Contents (Elt F)),
    nullary main_cst_0 (constant S_ .f32 0x00000000#32),
    unary main_cst_0 main_v1 (broadcastInDim S1x1 ![] bcast_S_S1x1 : (⟨S_, .f32⟩ : BufTy).Contents (Elt F) → (⟨S1x1, .f32⟩ : BufTy).Contents (Elt F)),
    nullary main_c (constantI S_ 32 0#32),
    nullary main_c_1 (constantI S_ 32 0#32),
    binaryIndexed main_v0 main_v1 ![main_c, main_c_1] ⟨S_, .i32⟩ main_v2 ((fun x u i => Host.dynamicUpdateSlice x u (fun k => (i k (Shape.Idx.first h_S_)).toInt) updateFits_S64x128_S1x1) : (⟨S64x128, .f32⟩ : BufTy).Contents (Elt F) → (⟨S1x1, .f32⟩ : BufTy).Contents (Elt F) → (Fin 2 → (⟨S_, .i32⟩ : BufTy).Contents (Elt F)) → (⟨S64x128, .f32⟩ : BufTy).Contents (Elt F)),
    nullary main_cst_2 (constant S_ .f32 0x00000000#32),
    unary main_cst_2 main_v3 (broadcastInDim S1x1 ![] bcast_S_S1x1 : (⟨S_, .f32⟩ : BufTy).Contents (Elt F) → (⟨S1x1, .f32⟩ : BufTy).Contents (Elt F)),
    nullary main_c_3 (constantI S_ 32 0#32),
    nullary main_c_4 (constantI S_ 32 64#32),
    binaryIndexed main_v2 main_v3 ![main_c_3, main_c_4] ⟨S_, .i32⟩ main_v4 ((fun x u i => Host.dynamicUpdateSlice x u (fun k => (i k (Shape.Idx.first h_S_)).toInt) updateFits_S64x128_S1x1) : (⟨S64x128, .f32⟩ : BufTy).Contents (Elt F) → (⟨S1x1, .f32⟩ : BufTy).Contents (Elt F) → (Fin 2 → (⟨S_, .i32⟩ : BufTy).Contents (Elt F)) → (⟨S64x128, .f32⟩ : BufTy).Contents (Elt F)),
    unary main_v4 main_v5 (broadcastInDim S1x1x1x1x64x128 ![4, 5] bcast_S64x128_S1x1x1x1x64x128_4_5 : (⟨S64x128, .f32⟩ : BufTy).Contents (Elt F) → (⟨S1x1x1x1x64x128, .f32⟩ : BufTy).Contents (Elt F)),
    unary main_v5 main_v6 (broadcastInDim S8x32x6x5x64x128 ![0, 1, 2, 3, 4, 5] bcast_S1x1x1x1x64x128_S8x32x6x5x64x128_0_1_2_3_4_5 : (⟨S1x1x1x1x64x128, .f32⟩ : BufTy).Contents (Elt F) → (⟨S8x32x6x5x64x128, .f32⟩ : BufTy).Contents (Elt F)),
    binary main_arg0 main_v6 main_v7 (mulf : (⟨S8x32x6x5x64x128, .f32⟩ : BufTy).Contents (Elt F) → (⟨S8x32x6x5x64x128, .f32⟩ : BufTy).Contents (Elt F) → (⟨S8x32x6x5x64x128, .f32⟩ : BufTy).Contents (Elt F)),
    reshape main_v7 main_v8 (rfl : (.f32 : EltTy) = .f32) shapeCasts_S8x32x6x5x64x128_S8x32x245760 ]

/-- Operations 16 to 24 of the reference, in order: the index map of the interior. -/
abbrev opsStart : List (HloOp τ sig (Elt F)) :=
  [ nullary main_v9 (iotaInDim S245760 32 0),
    reshape main_v9 main_v10 (rfl : (.i32 : EltTy) = .i32) shapeCasts_S245760_S6x5x64x128,
    nullary main_c_5 (constantI S_ 32 0#32),
    unary main_c_5 main_v11 (broadcastInDim S6x5x66x130 ![] bcast_S_S6x5x66x130 : (⟨S_, .i32⟩ : BufTy).Contents (Elt F) → (⟨S6x5x66x130, .i32⟩ : BufTy).Contents (Elt F)),
    nullary main_c_6 (constantI S_ 32 0#32),
    nullary main_c_7 (constantI S_ 32 0#32),
    nullary main_c_8 (constantI S_ 32 1#32),
    nullary main_c_9 (constantI S_ 32 1#32),
    binaryIndexed main_v11 main_v10 ![main_c_6, main_c_7, main_c_8, main_c_9] ⟨S_, .i32⟩ main_v12 ((fun x u i => Host.dynamicUpdateSlice x u (fun k => (i k (Shape.Idx.first h_S_)).toInt) updateFits_S6x5x66x130_S6x5x64x128) : (⟨S6x5x66x130, .i32⟩ : BufTy).Contents (Elt F) → (⟨S6x5x64x128, .i32⟩ : BufTy).Contents (Elt F) → (Fin 4 → (⟨S_, .i32⟩ : BufTy).Contents (Elt F)) → (⟨S6x5x66x130, .i32⟩ : BufTy).Contents (Elt F)) ]

/-- Operations 25 to 35 of the reference, in order: the top edge, left half. -/
abbrev opsTopLeft : List (HloOp τ sig (Elt F)) :=
  [ TRef.unary (TRef.of (T := ⟨S6x5x64x128, .i32⟩) main_v10) (TRef.of (T := ⟨S6x1x64x128, .i32⟩) main_call0_v0) (extractStridedSlice S6x1x64x128 ![0, 4, 0, 0] · slices_S6x5x64x128_S6x1x64x128_0_4_0_0),
    TRef.unary (TRef.of (T := ⟨S6x5x64x128, .i32⟩) main_v10) (TRef.of (T := ⟨S6x4x64x128, .i32⟩) main_call0_v1) (extractStridedSlice S6x4x64x128 ![0, 0, 0, 0] · slices_S6x5x64x128_S6x4x64x128_0_0_0_0),
    TRef.binary (TRef.of (T := ⟨S6x1x64x128, .i32⟩) main_call0_v0) (TRef.of (T := ⟨S6x4x64x128, .i32⟩) main_call0_v1) (TRef.of (T := ⟨S6x5x64x128, .i32⟩) main_v13) rollC,
    unary main_v13 main_v14 ((extractStridedSlice S6x5x1x64 ![0, 0, 63, 64] · slices_S6x5x64x128_S6x5x1x64_0_0_63_64) : (⟨S6x5x64x128, .i32⟩ : BufTy).Contents (Elt F) → (⟨S6x5x1x64, .i32⟩ : BufTy).Contents (Elt F)),
    reshape main_v14 main_v15 (rfl : (.i32 : EltTy) = .i32) shapeCasts_S6x5x1x64_S6x5x64,
    unary main_v15 main_v16 (broadcastInDim S6x5x1x64 ![0, 1, 3] bcast_S6x5x64_S6x5x1x64_0_1_3 : (⟨S6x5x64, .i32⟩ : BufTy).Contents (Elt F) → (⟨S6x5x1x64, .i32⟩ : BufTy).Contents (Elt F)),
    nullary main_c_10 (constantI S_ 32 0#32),
    nullary main_c_11 (constantI S_ 32 0#32),
    nullary main_c_12 (constantI S_ 32 0#32),
    nullary main_c_13 (constantI S_ 32 1#32),
    binaryIndexed main_v12 main_v16 ![main_c_10, main_c_11, main_c_12, main_c_13] ⟨S_, .i32⟩ main_v17 ((fun x u i => Host.dynamicUpdateSlice x u (fun k => (i k (Shape.Idx.first h_S_)).toInt) updateFits_S6x5x66x130_S6x5x1x64) : (⟨S6x5x66x130, .i32⟩ : BufTy).Contents (Elt F) → (⟨S6x5x1x64, .i32⟩ : BufTy).Contents (Elt F) → (Fin 4 → (⟨S_, .i32⟩ : BufTy).Contents (Elt F)) → (⟨S6x5x66x130, .i32⟩ : BufTy).Contents (Elt F)) ]

/-- Operations 36 to 50 of the reference, in order: the top edge, right half. -/
abbrev opsTopRight : List (HloOp τ sig (Elt F)) :=
  [ TRef.unary (TRef.of (T := ⟨S6x5x64x128, .i32⟩) main_v10) (TRef.of (T := ⟨S6x1x64x128, .i32⟩) main_call1_v0) (extractStridedSlice S6x1x64x128 ![0, 4, 0, 0] · slices_S6x5x64x128_S6x1x64x128_0_4_0_0),
    TRef.unary (TRef.of (T := ⟨S6x5x64x128, .i32⟩) main_v10) (TRef.of (T := ⟨S6x4x64x128, .i32⟩) main_call1_v1) (extractStridedSlice S6x4x64x128 ![0, 0, 0, 0] · slices_S6x5x64x128_S6x4x64x128_0_0_0_0),
    TRef.binary (TRef.of (T := ⟨S6x1x64x128, .i32⟩) main_call1_v0) (TRef.of (T := ⟨S6x4x64x128, .i32⟩) main_call1_v1) (TRef.of (T := ⟨S6x5x64x128, .i32⟩) main_v18) rollC,
    TRef.unary (TRef.of (T := ⟨S6x5x64x128, .i32⟩) main_v18) (TRef.of (T := ⟨S5x5x64x128, .i32⟩) main_call2_v0) (extractStridedSlice S5x5x64x128 ![1, 0, 0, 0] · slices_S6x5x64x128_S5x5x64x128_1_0_0_0),
    TRef.unary (TRef.of (T := ⟨S6x5x64x128, .i32⟩) main_v18) (TRef.of (T := ⟨S1x5x64x128, .i32⟩) main_call2_v1) (extractStridedSlice S1x5x64x128 ![0, 0, 0, 0] · slices_S6x5x64x128_S1x5x64x128_0_0_0_0),
    TRef.binary (TRef.of (T := ⟨S5x5x64x128, .i32⟩) main_call2_v0) (TRef.of (T := ⟨S1x5x64x128, .i32⟩) main_call2_v1) (TRef.of (T := ⟨S6x5x64x128, .i32⟩) main_v19) rollRBack,
    unary main_v19 main_v20 ((extractStridedSlice S6x5x64x1 ![0, 0, 0, 127] · slices_S6x5x64x128_S6x5x64x1_0_0_0_127) : (⟨S6x5x64x128, .i32⟩ : BufTy).Contents (Elt F) → (⟨S6x5x64x1, .i32⟩ : BufTy).Contents (Elt F)),
    reshape main_v20 main_v21 (rfl : (.i32 : EltTy) = .i32) shapeCasts_S6x5x64x1_S6x5x64,
    TRef.unary (TRef.of (T := ⟨S6x5x64, .i32⟩) main_v21) (TRef.of (T := ⟨S6x5x64, .i32⟩) main_v22) (Host.reverse [2]),
    unary main_v22 main_v23 (broadcastInDim S6x5x1x64 ![0, 1, 3] bcast_S6x5x64_S6x5x1x64_0_1_3 : (⟨S6x5x64, .i32⟩ : BufTy).Contents (Elt F) → (⟨S6x5x1x64, .i32⟩ : BufTy).Contents (Elt F)),
    nullary main_c_14 (constantI S_ 32 0#32),
    nullary main_c_15 (constantI S_ 32 0#32),
    nullary main_c_16 (constantI S_ 32 0#32),
    nullary main_c_17 (constantI S_ 32 65#32),
    binaryIndexed main_v17 main_v23 ![main_c_14, main_c_15, main_c_16, main_c_17] ⟨S_, .i32⟩ main_v24 ((fun x u i => Host.dynamicUpdateSlice x u (fun k => (i k (Shape.Idx.first h_S_)).toInt) updateFits_S6x5x66x130_S6x5x1x64) : (⟨S6x5x66x130, .i32⟩ : BufTy).Contents (Elt F) → (⟨S6x5x1x64, .i32⟩ : BufTy).Contents (Elt F) → (Fin 4 → (⟨S_, .i32⟩ : BufTy).Contents (Elt F)) → (⟨S6x5x66x130, .i32⟩ : BufTy).Contents (Elt F)) ]

/-- Operations 51 to 65 of the reference, in order: the bottom edge, left half. -/
abbrev opsBotLeft : List (HloOp τ sig (Elt F)) :=
  [ TRef.unary (TRef.of (T := ⟨S6x5x64x128, .i32⟩) main_v10) (TRef.of (T := ⟨S6x4x64x128, .i32⟩) main_call4_v0) (extractStridedSlice S6x4x64x128 ![0, 1, 0, 0] · slices_S6x5x64x128_S6x4x64x128_0_1_0_0),
    TRef.unary (TRef.of (T := ⟨S6x5x64x128, .i32⟩) main_v10) (TRef.of (T := ⟨S6x1x64x128, .i32⟩) main_call4_v1) (extractStridedSlice S6x1x64x128 ![0, 0, 0, 0] · slices_S6x5x64x128_S6x1x64x128_0_0_0_0),
    TRef.binary (TRef.of (T := ⟨S6x4x64x128, .i32⟩) main_call4_v0) (TRef.of (T := ⟨S6x1x64x128, .i32⟩) main_call4_v1) (TRef.of (T := ⟨S6x5x64x128, .i32⟩) main_v25) rollCBack,
    TRef.unary (TRef.of (T := ⟨S6x5x64x128, .i32⟩) main_v25) (TRef.of (T := ⟨S5x5x64x128, .i32⟩) main_call5_v0) (extractStridedSlice S5x5x64x128 ![1, 0, 0, 0] · slices_S6x5x64x128_S5x5x64x128_1_0_0_0),
    TRef.unary (TRef.of (T := ⟨S6x5x64x128, .i32⟩) main_v25) (TRef.of (T := ⟨S1x5x64x128, .i32⟩) main_call5_v1) (extractStridedSlice S1x5x64x128 ![0, 0, 0, 0] · slices_S6x5x64x128_S1x5x64x128_0_0_0_0),
    TRef.binary (TRef.of (T := ⟨S5x5x64x128, .i32⟩) main_call5_v0) (TRef.of (T := ⟨S1x5x64x128, .i32⟩) main_call5_v1) (TRef.of (T := ⟨S6x5x64x128, .i32⟩) main_v26) rollRBack,
    unary main_v26 main_v27 ((extractStridedSlice S6x5x64x1 ![0, 0, 0, 0] · slices_S6x5x64x128_S6x5x64x1_0_0_0_0) : (⟨S6x5x64x128, .i32⟩ : BufTy).Contents (Elt F) → (⟨S6x5x64x1, .i32⟩ : BufTy).Contents (Elt F)),
    reshape main_v27 main_v28 (rfl : (.i32 : EltTy) = .i32) shapeCasts_S6x5x64x1_S6x5x64,
    TRef.unary (TRef.of (T := ⟨S6x5x64, .i32⟩) main_v28) (TRef.of (T := ⟨S6x5x64, .i32⟩) main_v29) (Host.reverse [2]),
    unary main_v29 main_v30 (broadcastInDim S6x5x1x64 ![0, 1, 3] bcast_S6x5x64_S6x5x1x64_0_1_3 : (⟨S6x5x64, .i32⟩ : BufTy).Contents (Elt F) → (⟨S6x5x1x64, .i32⟩ : BufTy).Contents (Elt F)),
    nullary main_c_18 (constantI S_ 32 0#32),
    nullary main_c_19 (constantI S_ 32 0#32),
    nullary main_c_20 (constantI S_ 32 65#32),
    nullary main_c_21 (constantI S_ 32 2#32),
    binaryIndexed main_v24 main_v30 ![main_c_18, main_c_19, main_c_20, main_c_21] ⟨S_, .i32⟩ main_v31 ((fun x u i => Host.dynamicUpdateSlice x u (fun k => (i k (Shape.Idx.first h_S_)).toInt) updateFits_S6x5x66x130_S6x5x1x64) : (⟨S6x5x66x130, .i32⟩ : BufTy).Contents (Elt F) → (⟨S6x5x1x64, .i32⟩ : BufTy).Contents (Elt F) → (Fin 4 → (⟨S_, .i32⟩ : BufTy).Contents (Elt F)) → (⟨S6x5x66x130, .i32⟩ : BufTy).Contents (Elt F)) ]

/-- Operations 66 to 76 of the reference, in order: the bottom edge, right half. -/
abbrev opsBotRight : List (HloOp τ sig (Elt F)) :=
  [ TRef.unary (TRef.of (T := ⟨S6x5x64x128, .i32⟩) main_v10) (TRef.of (T := ⟨S6x4x64x128, .i32⟩) main_call7_v0) (extractStridedSlice S6x4x64x128 ![0, 1, 0, 0] · slices_S6x5x64x128_S6x4x64x128_0_1_0_0),
    TRef.unary (TRef.of (T := ⟨S6x5x64x128, .i32⟩) main_v10) (TRef.of (T := ⟨S6x1x64x128, .i32⟩) main_call7_v1) (extractStridedSlice S6x1x64x128 ![0, 0, 0, 0] · slices_S6x5x64x128_S6x1x64x128_0_0_0_0),
    TRef.binary (TRef.of (T := ⟨S6x4x64x128, .i32⟩) main_call7_v0) (TRef.of (T := ⟨S6x1x64x128, .i32⟩) main_call7_v1) (TRef.of (T := ⟨S6x5x64x128, .i32⟩) main_v32) rollCBack,
    unary main_v32 main_v33 ((extractStridedSlice S6x5x1x64 ![0, 0, 0, 0] · slices_S6x5x64x128_S6x5x1x64_0_0_0_0) : (⟨S6x5x64x128, .i32⟩ : BufTy).Contents (Elt F) → (⟨S6x5x1x64, .i32⟩ : BufTy).Contents (Elt F)),
    reshape main_v33 main_v34 (rfl : (.i32 : EltTy) = .i32) shapeCasts_S6x5x1x64_S6x5x64,
    unary main_v34 main_v35 (broadcastInDim S6x5x1x64 ![0, 1, 3] bcast_S6x5x64_S6x5x1x64_0_1_3 : (⟨S6x5x64, .i32⟩ : BufTy).Contents (Elt F) → (⟨S6x5x1x64, .i32⟩ : BufTy).Contents (Elt F)),
    nullary main_c_22 (constantI S_ 32 0#32),
    nullary main_c_23 (constantI S_ 32 0#32),
    nullary main_c_24 (constantI S_ 32 65#32),
    nullary main_c_25 (constantI S_ 32 65#32),
    binaryIndexed main_v31 main_v35 ![main_c_22, main_c_23, main_c_24, main_c_25] ⟨S_, .i32⟩ main_v36 ((fun x u i => Host.dynamicUpdateSlice x u (fun k => (i k (Shape.Idx.first h_S_)).toInt) updateFits_S6x5x66x130_S6x5x1x64) : (⟨S6x5x66x130, .i32⟩ : BufTy).Contents (Elt F) → (⟨S6x5x1x64, .i32⟩ : BufTy).Contents (Elt F) → (Fin 4 → (⟨S_, .i32⟩ : BufTy).Contents (Elt F)) → (⟨S6x5x66x130, .i32⟩ : BufTy).Contents (Elt F)) ]

/-- Operations 77 to 91 of the reference, in order: the left edge. -/
abbrev opsLeft : List (HloOp τ sig (Elt F)) :=
  [ TRef.unary (TRef.of (T := ⟨S6x5x64x128, .i32⟩) main_v10) (TRef.of (T := ⟨S6x1x64x128, .i32⟩) main_call8_v0) (extractStridedSlice S6x1x64x128 ![0, 4, 0, 0] · slices_S6x5x64x128_S6x1x64x128_0_4_0_0),
    TRef.unary (TRef.of (T := ⟨S6x5x64x128, .i32⟩) main_v10) (TRef.of (T := ⟨S6x4x64x128, .i32⟩) main_call8_v1) (extractStridedSlice S6x4x64x128 ![0, 0, 0, 0] · slices_S6x5x64x128_S6x4x64x128_0_0_0_0),
    TRef.binary (TRef.of (T := ⟨S6x1x64x128, .i32⟩) main_call8_v0) (TRef.of (T := ⟨S6x4x64x128, .i32⟩) main_call8_v1) (TRef.of (T := ⟨S6x5x64x128, .i32⟩) main_v37) rollC,
    TRef.unary (TRef.of (T := ⟨S6x5x64x128, .i32⟩) main_v37) (TRef.of (T := ⟨S1x5x64x128, .i32⟩) main_call9_v0) (extractStridedSlice S1x5x64x128 ![5, 0, 0, 0] · slices_S6x5x64x128_S1x5x64x128_5_0_0_0),
    TRef.unary (TRef.of (T := ⟨S6x5x64x128, .i32⟩) main_v37) (TRef.of (T := ⟨S5x5x64x128, .i32⟩) main_call9_v1) (extractStridedSlice S5x5x64x128 ![0, 0, 0, 0] · slices_S6x5x64x128_S5x5x64x128_0_0_0_0),
    TRef.binary (TRef.of (T := ⟨S1x5x64x128, .i32⟩) main_call9_v0) (TRef.of (T := ⟨S5x5x64x128, .i32⟩) main_call9_v1) (TRef.of (T := ⟨S6x5x64x128, .i32⟩) main_v38) rollR,
    unary main_v38 main_v39 ((extractStridedSlice S6x5x1x64 ![0, 0, 63, 0] · slices_S6x5x64x128_S6x5x1x64_0_0_63_0) : (⟨S6x5x64x128, .i32⟩ : BufTy).Contents (Elt F) → (⟨S6x5x1x64, .i32⟩ : BufTy).Contents (Elt F)),
    reshape main_v39 main_v40 (rfl : (.i32 : EltTy) = .i32) shapeCasts_S6x5x1x64_S6x5x64,
    TRef.unary (TRef.of (T := ⟨S6x5x64, .i32⟩) main_v40) (TRef.of (T := ⟨S6x5x64, .i32⟩) main_v41) (Host.reverse [2]),
    unary main_v41 main_v42 (broadcastInDim S6x5x64x1 ![0, 1, 2] bcast_S6x5x64_S6x5x64x1_0_1_2 : (⟨S6x5x64, .i32⟩ : BufTy).Contents (Elt F) → (⟨S6x5x64x1, .i32⟩ : BufTy).Contents (Elt F)),
    nullary main_c_26 (constantI S_ 32 0#32),
    nullary main_c_27 (constantI S_ 32 0#32),
    nullary main_c_28 (constantI S_ 32 1#32),
    nullary main_c_29 (constantI S_ 32 0#32),
    binaryIndexed main_v36 main_v42 ![main_c_26, main_c_27, main_c_28, main_c_29] ⟨S_, .i32⟩ main_v43 ((fun x u i => Host.dynamicUpdateSlice x u (fun k => (i k (Shape.Idx.first h_S_)).toInt) updateFits_S6x5x66x130_S6x5x64x1) : (⟨S6x5x66x130, .i32⟩ : BufTy).Contents (Elt F) → (⟨S6x5x64x1, .i32⟩ : BufTy).Contents (Elt F) → (Fin 4 → (⟨S_, .i32⟩ : BufTy).Contents (Elt F)) → (⟨S6x5x66x130, .i32⟩ : BufTy).Contents (Elt F)) ]

/-- Operations 92 to 106 of the reference, in order: the right edge. -/
abbrev opsRight : List (HloOp τ sig (Elt F)) :=
  [ TRef.unary (TRef.of (T := ⟨S6x5x64x128, .i32⟩) main_v10) (TRef.of (T := ⟨S6x4x64x128, .i32⟩) main_call11_v0) (extractStridedSlice S6x4x64x128 ![0, 1, 0, 0] · slices_S6x5x64x128_S6x4x64x128_0_1_0_0),
    TRef.unary (TRef.of (T := ⟨S6x5x64x128, .i32⟩) main_v10) (TRef.of (T := ⟨S6x1x64x128, .i32⟩) main_call11_v1) (extractStridedSlice S6x1x64x128 ![0, 0, 0, 0] · slices_S6x5x64x128_S6x1x64x128_0_0_0_0),
    TRef.binary (TRef.of (T := ⟨S6x4x64x128, .i32⟩) main_call11_v0) (TRef.of (T := ⟨S6x1x64x128, .i32⟩) main_call11_v1) (TRef.of (T := ⟨S6x5x64x128, .i32⟩) main_v44) rollCBack,
    TRef.unary (TRef.of (T := ⟨S6x5x64x128, .i32⟩) main_v44) (TRef.of (T := ⟨S1x5x64x128, .i32⟩) main_call12_v0) (extractStridedSlice S1x5x64x128 ![5, 0, 0, 0] · slices_S6x5x64x128_S1x5x64x128_5_0_0_0),
    TRef.unary (TRef.of (T := ⟨S6x5x64x128, .i32⟩) main_v44) (TRef.of (T := ⟨S5x5x64x128, .i32⟩) main_call12_v1) (extractStridedSlice S5x5x64x128 ![0, 0, 0, 0] · slices_S6x5x64x128_S5x5x64x128_0_0_0_0),
    TRef.binary (TRef.of (T := ⟨S1x5x64x128, .i32⟩) main_call12_v0) (TRef.of (T := ⟨S5x5x64x128, .i32⟩) main_call12_v1) (TRef.of (T := ⟨S6x5x64x128, .i32⟩) main_v45) rollR,
    unary main_v45 main_v46 ((extractStridedSlice S6x5x1x64 ![0, 0, 0, 64] · slices_S6x5x64x128_S6x5x1x64_0_0_0_64) : (⟨S6x5x64x128, .i32⟩ : BufTy).Contents (Elt F) → (⟨S6x5x1x64, .i32⟩ : BufTy).Contents (Elt F)),
    reshape main_v46 main_v47 (rfl : (.i32 : EltTy) = .i32) shapeCasts_S6x5x1x64_S6x5x64,
    TRef.unary (TRef.of (T := ⟨S6x5x64, .i32⟩) main_v47) (TRef.of (T := ⟨S6x5x64, .i32⟩) main_v48) (Host.reverse [2]),
    unary main_v48 main_v49 (broadcastInDim S6x5x64x1 ![0, 1, 2] bcast_S6x5x64_S6x5x64x1_0_1_2 : (⟨S6x5x64, .i32⟩ : BufTy).Contents (Elt F) → (⟨S6x5x64x1, .i32⟩ : BufTy).Contents (Elt F)),
    nullary main_c_30 (constantI S_ 32 0#32),
    nullary main_c_31 (constantI S_ 32 0#32),
    nullary main_c_32 (constantI S_ 32 2#32),
    nullary main_c_33 (constantI S_ 32 129#32),
    binaryIndexed main_v43 main_v49 ![main_c_30, main_c_31, main_c_32, main_c_33] ⟨S_, .i32⟩ main_v50 ((fun x u i => Host.dynamicUpdateSlice x u (fun k => (i k (Shape.Idx.first h_S_)).toInt) updateFits_S6x5x66x130_S6x5x64x1) : (⟨S6x5x66x130, .i32⟩ : BufTy).Contents (Elt F) → (⟨S6x5x64x1, .i32⟩ : BufTy).Contents (Elt F) → (Fin 4 → (⟨S_, .i32⟩ : BufTy).Contents (Elt F)) → (⟨S6x5x66x130, .i32⟩ : BufTy).Contents (Elt F)) ]

/-- Operations 107 to 131 of the reference, in order: the read of the flat argument at the index map. -/
abbrev opsTake : List (HloOp τ sig (Elt F)) :=
  [ reshape main_v50 main_v51 (rfl : (.i32 : EltTy) = .i32) shapeCasts_S6x5x66x130_S257400,
    TRef.nullary (TRef.of (T := ⟨S_, .i32⟩) main_call14_c) (constantI S_ 32 0#32),
    TRef.unary (TRef.of (T := ⟨S_, .i32⟩) main_call14_c) (TRef.of (T := ⟨S257400, .i32⟩) main_call14_v0) (broadcastInDim S257400 ![] bcast_S_S257400),
    TRef.binary (TRef.of (T := ⟨S257400, .i32⟩) main_v51) (TRef.of (T := ⟨S257400, .i32⟩) main_call14_v0) (TRef.of (T := ⟨S257400, .i1⟩) main_call14_v1) (cmpi .slt),
    TRef.nullary (TRef.of (T := ⟨S_, .i32⟩) main_call14_c_0) (constantI S_ 32 245760#32),
    TRef.unary (TRef.of (T := ⟨S_, .i32⟩) main_call14_c_0) (TRef.of (T := ⟨S257400, .i32⟩) main_call14_v2) (broadcastInDim S257400 ![] bcast_S_S257400),
    TRef.binary (TRef.of (T := ⟨S257400, .i32⟩) main_v51) (TRef.of (T := ⟨S257400, .i32⟩) main_call14_v2) (TRef.of (T := ⟨S257400, .i32⟩) main_call14_v3) addi,
    TRef.ternary (TRef.of (T := ⟨S257400, .i1⟩) main_call14_v1) (TRef.of (T := ⟨S257400, .i32⟩) main_call14_v3) (TRef.of (T := ⟨S257400, .i32⟩) main_v51) (TRef.of (T := ⟨S257400, .i32⟩) main_call14_v4) select,
    TRef.unary (TRef.of (T := ⟨S257400, .i32⟩) main_call14_v4) (TRef.of (T := ⟨S257400x1, .i32⟩) main_call14_v5) (broadcastInDim S257400x1 ![0] bcast_S257400_S257400x1_0),
    TRef.nullary (TRef.of (T := ⟨S1, .i32⟩) main_call14_c_1) (constantI S1 32 245759#32),
    TRef.nullary (TRef.of (T := ⟨S_, .i32⟩) main_call14_c_2) (constantI S_ 32 0#32),
    TRef.unary (TRef.of (T := ⟨S_, .i32⟩) main_call14_c_2) (TRef.of (T := ⟨S257400x1, .i32⟩) main_call14_v6) (broadcastInDim S257400x1 ![] bcast_S_S257400x1),
    TRef.binary (TRef.of (T := ⟨S257400x1, .i32⟩) main_call14_v5) (TRef.of (T := ⟨S257400x1, .i32⟩) main_call14_v6) (TRef.of (T := ⟨S257400x1, .i1⟩) main_call14_v7) (cmpi .sge),
    TRef.unary (TRef.of (T := ⟨S1, .i32⟩) main_call14_c_1) (TRef.of (T := ⟨S1x1, .i32⟩) main_call14_v8) (broadcastInDim S1x1 ![1] bcast_S1_S1x1_1),
    TRef.unary (TRef.of (T := ⟨S1x1, .i32⟩) main_call14_v8) (TRef.of (T := ⟨S257400x1, .i32⟩) main_call14_v9) (broadcastInDim S257400x1 ![0, 1] bcast_S1x1_S257400x1_0_1),
    TRef.binary (TRef.of (T := ⟨S257400x1, .i32⟩) main_call14_v5) (TRef.of (T := ⟨S257400x1, .i32⟩) main_call14_v9) (TRef.of (T := ⟨S257400x1, .i1⟩) main_call14_v10) (cmpi .sle),
    TRef.binary (TRef.of (T := ⟨S257400x1, .i1⟩) main_call14_v7) (TRef.of (T := ⟨S257400x1, .i1⟩) main_call14_v10) (TRef.of (T := ⟨S257400x1, .i1⟩) main_call14_v11) andi,
    TRef.nullary (TRef.of (T := ⟨S_, .i1⟩) main_call14_c_3) (constantI S_ 1 1#1),
    TRef.binary (TRef.of (T := ⟨S257400x1, .i1⟩) main_call14_v11) (TRef.of (T := ⟨S_, .i1⟩) main_call14_c_3) (TRef.of (T := ⟨S257400, .i1⟩) main_call14_v12) (fun x v => Host.reduce IntOp.andi x v reducesTo_S257400x1_S257400_d1 h_S_),
    TRef.binary (TRef.of (T := ⟨S8x32x245760, .f32⟩) main_v8) (TRef.of (T := ⟨S257400x1, .i32⟩) main_call14_v5) (TRef.of (T := ⟨S8x32x257400, .f32⟩) main_call14_v13) (fun x i => Host.gather gather_S8x32x245760_S257400x1_S8x32x257400_01_2_n_n_2_1_8321 x i),
    TRef.unary (TRef.of (T := ⟨S257400, .i1⟩) main_call14_v12) (TRef.of (T := ⟨S8x32x257400, .i1⟩) main_call14_v14) (broadcastInDim S8x32x257400 ![2] bcast_S257400_S8x32x257400_2),
    TRef.nullary (TRef.of (T := ⟨S_, .f32⟩) main_call14_cst) (constant S_ .f32 0x7FC00000#32),
    TRef.unary (TRef.of (T := ⟨S_, .f32⟩) main_call14_cst) (TRef.of (T := ⟨S8x32x257400, .f32⟩) main_call14_v15) (broadcastInDim S8x32x257400 ![] bcast_S_S8x32x257400),
    TRef.ternary (TRef.of (T := ⟨S8x32x257400, .i1⟩) main_call14_v14) (TRef.of (T := ⟨S8x32x257400, .f32⟩) main_call14_v13) (TRef.of (T := ⟨S8x32x257400, .f32⟩) main_call14_v15) (TRef.of (T := ⟨S8x32x257400, .f32⟩) main_v52) select,
    reshape main_v52 main_v53 (rfl : (.f32 : EltTy) = .f32) shapeCasts_S8x32x257400_S8x32x6x5x66x130 ]

/-- All operations of the reference, in order. -/
abbrev ops : List (HloOp τ sig (Elt F)) :=
  opsFlat ++ opsStart ++ opsTopLeft ++ opsTopRight ++ opsBotLeft
    ++ opsBotRight ++ opsLeft ++ opsRight ++ opsTake

set_option maxHeartbeats 4000000 in
/-- The reference is the straight line of its operations. -/
theorem main_eq (c : Dev nD) : main (F := F) c = seq ops := rfl

/-- No buffer of the reference is scoped. -/
theorem no_scoped_refs : (Finset.univ.filter fun b : Ref sig .tc => b.isScoped) = ∅ := by decide

/-- No semaphore of the reference is scoped. -/
theorem no_scoped_sems : (Finset.univ.filter fun sm : SemLoc sig => sm.isScoped .tc) = ∅ := by decide

/-- Every buffer that `opsFlat` touches is a TensorCore buffer. -/
theorem opsFlat_sub : (opsFlat : List (HloOp τ sig (Elt F))).Forall fun op => op.bufs ⊆ tcRefs τ sig :=
  ⟨nullary_bufs_sub .., unary_bufs_sub .., nullary_bufs_sub .., unary_bufs_sub .., nullary_bufs_sub .., nullary_bufs_sub .., binaryIndexed_bufs_sub .., nullary_bufs_sub .., unary_bufs_sub .., nullary_bufs_sub .., nullary_bufs_sub .., binaryIndexed_bufs_sub .., unary_bufs_sub .., unary_bufs_sub .., binary_bufs_sub .., reshape_bufs_sub ..⟩

/-- Every buffer that `opsStart` touches is a TensorCore buffer. -/
theorem opsStart_sub : (opsStart : List (HloOp τ sig (Elt F))).Forall fun op => op.bufs ⊆ tcRefs τ sig :=
  ⟨nullary_bufs_sub .., reshape_bufs_sub .., nullary_bufs_sub .., unary_bufs_sub .., nullary_bufs_sub .., nullary_bufs_sub .., nullary_bufs_sub .., nullary_bufs_sub .., binaryIndexed_bufs_sub ..⟩

/-- Every buffer that `opsTopLeft` touches is a TensorCore buffer. -/
theorem opsTopLeft_sub : (opsTopLeft : List (HloOp τ sig (Elt F))).Forall fun op => op.bufs ⊆ tcRefs τ sig :=
  ⟨unary_bufs_sub .., unary_bufs_sub .., binary_bufs_sub .., unary_bufs_sub .., reshape_bufs_sub .., unary_bufs_sub .., nullary_bufs_sub .., nullary_bufs_sub .., nullary_bufs_sub .., nullary_bufs_sub .., binaryIndexed_bufs_sub ..⟩

/-- Every buffer that `opsTopRight` touches is a TensorCore buffer. -/
theorem opsTopRight_sub : (opsTopRight : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., unary_bufs_sub .., nullary_bufs_sub .., nullary_bufs_sub .., nullary_bufs_sub .., nullary_bufs_sub .., binaryIndexed_bufs_sub ..⟩

/-- Every buffer that `opsBotLeft` touches is a TensorCore buffer. -/
theorem opsBotLeft_sub : (opsBotLeft : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., unary_bufs_sub .., nullary_bufs_sub .., nullary_bufs_sub .., nullary_bufs_sub .., nullary_bufs_sub .., binaryIndexed_bufs_sub ..⟩

/-- Every buffer that `opsBotRight` touches is a TensorCore buffer. -/
theorem opsBotRight_sub : (opsBotRight : List (HloOp τ sig (Elt F))).Forall fun op => op.bufs ⊆ tcRefs τ sig :=
  ⟨unary_bufs_sub .., unary_bufs_sub .., binary_bufs_sub .., unary_bufs_sub .., reshape_bufs_sub .., unary_bufs_sub .., nullary_bufs_sub .., nullary_bufs_sub .., nullary_bufs_sub .., nullary_bufs_sub .., binaryIndexed_bufs_sub ..⟩

/-- Every buffer that `opsLeft` touches is a TensorCore buffer. -/
theorem opsLeft_sub : (opsLeft : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., unary_bufs_sub .., nullary_bufs_sub .., nullary_bufs_sub .., nullary_bufs_sub .., nullary_bufs_sub .., binaryIndexed_bufs_sub ..⟩

/-- Every buffer that `opsRight` touches is a TensorCore buffer. -/
theorem opsRight_sub : (opsRight : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., unary_bufs_sub .., nullary_bufs_sub .., nullary_bufs_sub .., nullary_bufs_sub .., nullary_bufs_sub .., binaryIndexed_bufs_sub ..⟩

/-- Every buffer that `opsTake` touches is a TensorCore buffer. -/
theorem opsTake_sub : (opsTake : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- Every buffer that the reference touches is a TensorCore buffer. -/
theorem ops_sub : (ops : List (HloOp τ sig (Elt F))).Forall fun op => op.bufs ⊆ tcRefs τ sig := by
  simp only [ops, List.forall_append]
  exact ⟨⟨⟨⟨⟨⟨⟨⟨opsFlat_sub, opsStart_sub⟩, opsTopLeft_sub⟩, opsTopRight_sub⟩, opsBotLeft_sub⟩, opsBotRight_sub⟩, opsLeft_sub⟩,
    opsRight_sub⟩, opsTake_sub⟩

/-- The buffers after the first `k` stretches, for the eight cuts between the nine stretches. -/
abbrev V1 (V : Valuation τ sig (Elt F)) := after opsFlat V
abbrev V2 (V : Valuation τ sig (Elt F)) := after opsStart (V1 V)
abbrev V3 (V : Valuation τ sig (Elt F)) := after opsTopLeft (V2 V)
abbrev V4 (V : Valuation τ sig (Elt F)) := after opsTopRight (V3 V)
abbrev V5 (V : Valuation τ sig (Elt F)) := after opsBotLeft (V4 V)
abbrev V6 (V : Valuation τ sig (Elt F)) := after opsBotRight (V5 V)
abbrev V7 (V : Valuation τ sig (Elt F)) := after opsLeft (V6 V)
abbrev V8 (V : Valuation τ sig (Elt F)) := after opsRight (V7 V)
abbrev V9 (V : Valuation τ sig (Elt F)) := after opsTake (V8 V)

/-- A line of two parts leaves what the second part leaves after the first. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The reference's line leaves what its nine stretches leave, one after the other. -/
theorem after_ops (V : Valuation τ sig (Elt F)) : after ops V = V9 V := by
  simp only [ops, after_two]

/-- The reference runs to the end, and each buffer then holds what its nine stretches leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = V9 (launchContents m c) (Proc.devRef .tc b) :=
  (θ_run defs _ _).mono (fun _ h c b => (h c b).trans (congrFun (after_ops _) _))
    (run_seq no_scoped_refs no_scoped_sems defs main (fun _ => ops) main_eq (fun _ => ops_sub) m ρ)

/-- The reference has no semaphore, so every counter reads zero at its end. -/
theorem counters_zero (s : MemSt nD τ sig (Elt F)) : s.sem = fun _ => 0 :=
  sem_eq_zero_of_no_sems (by decide) s

end Cert.RefRun

end
-- ==== Proof.RefFlat.lean ====
/- The reference's first stretch: the argument times the mask, flattened. -/
module

public import proofs.«01_k».proof.Proof.RefRun
public import proofs.«01_k».proof.Proof.Spec
public import Idealize.ShloMosaic.Lib.StableHlo.ReadAt

@[expose] public section

set_option maxRecDepth 16384

noncomputable section

namespace Cert.RefFlat

open Cert.ReferenceIdeal Cert.ReferenceIdeal.Gen Cert.RefRun Idealize.ShloMosaic Idealize.ShloMosaic.TcCoe
open Idealize.SL.Sem Idealize.ShloMosaic.StableHlo

/-- An update of one element at image row 0 starts there. -/
theorem start_row (s : Fin 2 → ℤ) (h0 : s 0 = 0) : Host.clampedStart S64x128 S1x1 updateFits_S64x128_S1x1.1 s 0 = 0 := by
  simp [Host.clampedStart, h0]

/-- An update of one element at image column `b` starts there. -/
theorem start_col (s : Fin 2 → ℤ) (b : ℕ) (hb : b ≤ 127) (h1 : s 1 = b) :
    Host.clampedStart S64x128 S1x1 updateFits_S64x128_S1x1.1 s 1 = b := by
  simp [Host.clampedStart, h1]; omega

/-- The faces times a mask that is zero at the two masked positions and one elsewhere are the masked faces. -/
theorem masked_mul (X : Fin 6 → Fin 5 → Fin 64 → Fin 128 → EReal) (s : Spec.Pos) {p q : Prop} [Decidable p] [Decidable q]
    (hp : p ↔ s.2.2.1.val = 0 ∧ s.2.2.2.val = 64) (hq : q ↔ s.2.2.1.val = 0 ∧ s.2.2.2.val = 0) :
    X s.1 s.2.1 s.2.2.1 s.2.2.2 * (if p then 0 else if q then 0 else 1) = Spec.masked X s := by
  by_cases h : s.2.2.1.val = 0 ∧ (s.2.2.2.val = 0 ∨ s.2.2.2.val = 64)
  · rw [Spec.masked_closed h]
    by_cases i : p
    · rw [if_pos i, mul_zero]
    · rw [if_neg i, if_pos (by rw [hq]; rw [hp] at i; omega), mul_zero]
  · rw [Spec.masked_open (by omega), if_neg (by rw [hp]; omega), if_neg (by rw [hq]; omega), mul_one]

/-- The flattened product of the argument and the mask, at the place of face position `(r, c, h, w)`: the masked argument. -/
theorem flat_at (V : Valuation τ sig (Elt Ideal)) (a : Fin 8) (b : Fin 32) (r : Fin 6) (c : Fin 5) (h : Fin 64)
    (w : Fin 128) :
    (after opsFlat V (Proc.devRef .tc main_v8) : S8x32x245760.Idx → EReal) (ix3 a b ⟨Spec.place (r, c, h, w), Spec.place_lt _⟩)
      = Spec.masked (fun r c h w => (V (Proc.devRef .tc main_arg0) : S8x32x6x5x64x128.Idx → EReal) (ix6 a b r c h w)) (r, c, h, w) := by
  unfold Spec.place
  after_reads_simp [binaryIndexed_result_read, indexContents_cons, indexContents_empty]
  clean_types
  pointwise
  refine masked_mul (fun r c h w => (V (Proc.devRef .tc main_arg0) : S8x32x6x5x64x128.Idx → EReal) (ix6 a b r c h w)) (r, c, h, w) ?_ ?_
  · rw [start_row, start_col _ 64]
    · dsimp only; omega
    · omega
    · rfl
    · rfl
  · rw [start_row, start_col _ 0]
    · dsimp only; omega
    · omega
    · rfl
    · rfl

end Cert.RefFlat

end
-- ==== Proof.RefIndex.lean ====
/- The reference's index map: what each stretch of its operations puts where. -/
module

public import proofs.«01_k».proof.Proof.RefRun
public import proofs.«01_k».proof.Proof.Spec
public import Idealize.ShloMosaic.Lib.StableHlo.ReadAt

@[expose] public section

set_option maxRecDepth 16384

noncomputable section

namespace Cert.RefIndex

open Cert.ReferenceIdeal Cert.ReferenceIdeal.Gen Cert.RefRun Idealize.ShloMosaic Idealize.ShloMosaic.TcCoe
open Idealize.SL.Sem Idealize.ShloMosaic.StableHlo

variable {F : FTy → Type} [FloatOps F]

/-- The contents of an index-map buffer, read as an array of words. -/
abbrev Map : Type := S6x5x66x130.Idx → BitVec 32

/-- A patch of whole faces written into the index map from image row `a` and image column `b` on. -/
theorem patchFace {α : Type} (x : S6x5x66x130.Idx → α) (u : S6x5x64x128.Idx → α) (s : Fin 4 → ℤ) (a b : ℕ) (h0 : s 0 = 0)
    (h1 : s 1 = 0) (h2 : s 2 = a) (h3 : s 3 = b) (ha : a ≤ 2) (hb : b ≤ 2) (r : Fin 6) (c : Fin 5) (h : Fin 66)
    (w : Fin 130) :
    Host.dynamicUpdateSlice x u s updateFits_S6x5x66x130_S6x5x64x128 (ix4 r c h w)
      = if i : (a ≤ h.val ∧ h.val < a + 64) ∧ b ≤ w.val ∧ w.val < b + 128 then u (ix4 r c ⟨h.val - a, by omega⟩ ⟨w.val - b, by omega⟩) else x (ix4 r c h w) := by
  have e0 : Host.clampedStart S6x5x66x130 S6x5x64x128 updateFits_S6x5x66x130_S6x5x64x128.1 s 0 = 0 := by
    simp [Host.clampedStart, h0]
  have e1 : Host.clampedStart S6x5x66x130 S6x5x64x128 updateFits_S6x5x66x130_S6x5x64x128.1 s 1 = 0 := by
    simp [Host.clampedStart, h1]
  have e2 : Host.clampedStart S6x5x66x130 S6x5x64x128 updateFits_S6x5x66x130_S6x5x64x128.1 s 2 = a := by
    simp [Host.clampedStart, h2]; omega
  have e3 : Host.clampedStart S6x5x66x130 S6x5x64x128 updateFits_S6x5x66x130_S6x5x64x128.1 s 3 = b := by
    simp [Host.clampedStart, h3]; omega
  pointwise
  simp only [e0, e1, e2, e3]
  by_cases i : (a ≤ h.val ∧ h.val < a + 64) ∧ b ≤ w.val ∧ w.val < b + 128
  · rw [dif_pos i, dif_pos (by omega)]
    exact congrArg u (Spec.ix4_eq rfl rfl rfl rfl)
  · rw [dif_neg i, dif_neg (by omega)]

/-- A patch of half an image row written into the index map from image row `a` and image column `b` on. -/
theorem patchRow {α : Type} (x : S6x5x66x130.Idx → α) (u : S6x5x1x64.Idx → α) (s : Fin 4 → ℤ) (a b : ℕ) (h0 : s 0 = 0)
    (h1 : s 1 = 0) (h2 : s 2 = a) (h3 : s 3 = b) (ha : a ≤ 65) (hb : b ≤ 66) (r : Fin 6) (c : Fin 5) (h : Fin 66)
    (w : Fin 130) :
    Host.dynamicUpdateSlice x u s updateFits_S6x5x66x130_S6x5x1x64 (ix4 r c h w)
      = if i : (h.val = a) ∧ b ≤ w.val ∧ w.val < b + 64 then u (ix4 r c 0 ⟨w.val - b, by omega⟩) else x (ix4 r c h w) := by
  have e0 : Host.clampedStart S6x5x66x130 S6x5x1x64 updateFits_S6x5x66x130_S6x5x1x64.1 s 0 = 0 := by
    simp [Host.clampedStart, h0]
  have e1 : Host.clampedStart S6x5x66x130 S6x5x1x64 updateFits_S6x5x66x130_S6x5x1x64.1 s 1 = 0 := by
    simp [Host.clampedStart, h1]
  have e2 : Host.clampedStart S6x5x66x130 S6x5x1x64 updateFits_S6x5x66x130_S6x5x1x64.1 s 2 = a := by
    simp [Host.clampedStart, h2]; omega
  have e3 : Host.clampedStart S6x5x66x130 S6x5x1x64 updateFits_S6x5x66x130_S6x5x1x64.1 s 3 = b := by
    simp [Host.clampedStart, h3]; omega
  pointwise
  simp only [e0, e1, e2, e3]
  by_cases i : (h.val = a) ∧ b ≤ w.val ∧ w.val < b + 64
  · rw [dif_pos i, dif_pos (by omega)]
    exact congrArg u (Spec.ix4_eq rfl rfl (by show _ = 0; omega) rfl)
  · rw [dif_neg i, dif_neg (by omega)]

/-- A patch of an image column written into the index map from image row `a` and image column `b` on. -/
theorem patchCol {α : Type} (x : S6x5x66x130.Idx → α) (u : S6x5x64x1.Idx → α) (s : Fin 4 → ℤ) (a b : ℕ) (h0 : s 0 = 0)
    (h1 : s 1 = 0) (h2 : s 2 = a) (h3 : s 3 = b) (ha : a ≤ 2) (hb : b ≤ 129) (r : Fin 6) (c : Fin 5) (h : Fin 66)
    (w : Fin 130) :
    Host.dynamicUpdateSlice x u s updateFits_S6x5x66x130_S6x5x64x1 (ix4 r c h w)
      = if i : (a ≤ h.val ∧ h.val < a + 64) ∧ w.val = b then u (ix4 r c ⟨h.val - a, by omega⟩ 0) else x (ix4 r c h w) := by
  have e0 : Host.clampedStart S6x5x66x130 S6x5x64x1 updateFits_S6x5x66x130_S6x5x64x1.1 s 0 = 0 := by
    simp [Host.clampedStart, h0]
  have e1 : Host.clampedStart S6x5x66x130 S6x5x64x1 updateFits_S6x5x66x130_S6x5x64x1.1 s 1 = 0 := by
    simp [Host.clampedStart, h1]
  have e2 : Host.clampedStart S6x5x66x130 S6x5x64x1 updateFits_S6x5x66x130_S6x5x64x1.1 s 2 = a := by
    simp [Host.clampedStart, h2]; omega
  have e3 : Host.clampedStart S6x5x66x130 S6x5x64x1 updateFits_S6x5x66x130_S6x5x64x1.1 s 3 = b := by
    simp [Host.clampedStart, h3]; omega
  pointwise
  simp only [e0, e1, e2, e3]
  by_cases i : (a ≤ h.val ∧ h.val < a + 64) ∧ w.val = b
  · rw [dif_pos i, dif_pos (by omega)]
    exact congrArg u (Spec.ix4_eq rfl rfl rfl (by show _ = 0; omega))
  · rw [dif_neg i, dif_neg (by omega)]

variable (V : Valuation τ sig (Elt F))

/-- The index map after the left half of the top edge is filled. -/
theorem topLeft_at (r : Fin 6) (c : Fin 5) (h : Fin 66) (w : Fin 130) :
    (after opsTopLeft V (Proc.devRef .tc main_v17) : Map) (ix4 r c h w)
      = if i : (h.val = 0) ∧ 1 ≤ w.val ∧ w.val < 1 + 64 then
          (V (Proc.devRef .tc main_v10) : Faces (BitVec 32)) (ix4 r ⟨(c.val + 4) % 5, by omega⟩
            63 ⟨63 + w.val, by omega⟩)
        else (V (Proc.devRef .tc main_v12) : Map) (ix4 r c h w) := by
  after_reads_simp [binaryIndexed_result_read, indexContents_cons, indexContents_empty]
  simp -implicitDefEqProofs only [TRef.toBuf, TRef.ofBuf, cast_cast, cast_eq]
  clean_types
  rw [patchRow _ _ _ 0 1 rfl rfl rfl rfl (by omega) (by omega)]
  by_cases i : (h.val = 0) ∧ 1 ≤ w.val ∧ w.val < 1 + 64
  · rw [dif_pos i, dif_pos i]
    pointwise [rollC]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

/-- The index map after the right half of the top edge is filled. -/
theorem topRight_at (r : Fin 6) (c : Fin 5) (h : Fin 66) (w : Fin 130) :
    (after opsTopRight V (Proc.devRef .tc main_v24) : Map) (ix4 r c h w)
      = if i : (h.val = 0) ∧ 65 ≤ w.val ∧ w.val < 65 + 64 then
          (V (Proc.devRef .tc main_v10) : Faces (BitVec 32)) (ix4 ⟨(r.val + 1) % 6, by omega⟩ ⟨(c.val + 4) % 5, by omega⟩
            ⟨128 - w.val, by omega⟩ 127)
        else (V (Proc.devRef .tc main_v17) : Map) (ix4 r c h w) := by
  after_reads_simp [binaryIndexed_result_read, indexContents_cons, indexContents_empty]
  simp -implicitDefEqProofs only [TRef.toBuf, TRef.ofBuf, cast_cast, cast_eq]
  clean_types
  rw [patchRow _ _ _ 0 65 rfl rfl rfl rfl (by omega) (by omega)]
  by_cases i : (h.val = 0) ∧ 65 ≤ w.val ∧ w.val < 65 + 64
  · rw [dif_pos i, dif_pos i]
    pointwise [rollC, rollRBack]
    simp only [List.mem_singleton, Fin.isValue, Fin.reduceEq, ↓reduceIte, Fin.val_rev]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

/-- The index map after the left half of the bottom edge is filled. -/
theorem botLeft_at (r : Fin 6) (c : Fin 5) (h : Fin 66) (w : Fin 130) :
    (after opsBotLeft V (Proc.devRef .tc main_v31) : Map) (ix4 r c h w)
      = if i : (h.val = 65) ∧ 2 ≤ w.val ∧ w.val < 2 + 64 then
          (V (Proc.devRef .tc main_v10) : Faces (BitVec 32)) (ix4 ⟨(r.val + 1) % 6, by omega⟩ ⟨(c.val + 1) % 5, by omega⟩
            ⟨65 - w.val, by omega⟩ 0)
        else (V (Proc.devRef .tc main_v24) : Map) (ix4 r c h w) := by
  after_reads_simp [binaryIndexed_result_read, indexContents_cons, indexContents_empty]
  simp -implicitDefEqProofs only [TRef.toBuf, TRef.ofBuf, cast_cast, cast_eq]
  clean_types
  rw [patchRow _ _ _ 65 2 rfl rfl rfl rfl (by omega) (by omega)]
  by_cases i : (h.val = 65) ∧ 2 ≤ w.val ∧ w.val < 2 + 64
  · rw [dif_pos i, dif_pos i]
    pointwise [rollCBack, rollRBack]
    simp only [List.mem_singleton, Fin.isValue, Fin.reduceEq, ↓reduceIte, Fin.val_rev]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

/-- The index map after the right half of the bottom edge is filled. -/
theorem botRight_at (r : Fin 6) (c : Fin 5) (h : Fin 66) (w : Fin 130) :
    (after opsBotRight V (Proc.devRef .tc main_v36) : Map) (ix4 r c h w)
      = if i : (h.val = 65) ∧ 65 ≤ w.val ∧ w.val < 65 + 64 then
          (V (Proc.devRef .tc main_v10) : Faces (BitVec 32)) (ix4 r ⟨(c.val + 1) % 5, by omega⟩
            0 ⟨w.val - 65, by omega⟩)
        else (V (Proc.devRef .tc main_v31) : Map) (ix4 r c h w) := by
  after_reads_simp [binaryIndexed_result_read, indexContents_cons, indexContents_empty]
  simp -implicitDefEqProofs only [TRef.toBuf, TRef.ofBuf, cast_cast, cast_eq]
  clean_types
  rw [patchRow _ _ _ 65 65 rfl rfl rfl rfl (by omega) (by omega)]
  by_cases i : (h.val = 65) ∧ 65 ≤ w.val ∧ w.val < 65 + 64
  · rw [dif_pos i, dif_pos i]
    pointwise [rollCBack]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

/-- The index map after the left edge is filled. -/
theorem left_at (r : Fin 6) (c : Fin 5) (h : Fin 66) (w : Fin 130) :
    (after opsLeft V (Proc.devRef .tc main_v43) : Map) (ix4 r c h w)
      = if i : (1 ≤ h.val ∧ h.val < 1 + 64) ∧ w.val = 0 then
          (V (Proc.devRef .tc main_v10) : Faces (BitVec 32)) (ix4 ⟨(r.val + 5) % 6, by omega⟩ ⟨(c.val + 4) % 5, by omega⟩
            63 ⟨64 - h.val, by omega⟩)
        else (V (Proc.devRef .tc main_v36) : Map) (ix4 r c h w) := by
  after_reads_simp [binaryIndexed_result_read, indexContents_cons, indexContents_empty]
  simp -implicitDefEqProofs only [TRef.toBuf, TRef.ofBuf, cast_cast, cast_eq]
  clean_types
  rw [patchCol _ _ _ 1 0 rfl rfl rfl rfl (by omega) (by omega)]
  by_cases i : (1 ≤ h.val ∧ h.val < 1 + 64) ∧ w.val = 0
  · rw [dif_pos i, dif_pos i]
    pointwise [rollC, rollR]
    simp only [List.mem_singleton, Fin.isValue, Fin.reduceEq, ↓reduceIte, Fin.val_rev]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

/-- The index map after the right edge is filled. -/
theorem right_at (r : Fin 6) (c : Fin 5) (h : Fin 66) (w : Fin 130) :
    (after opsRight V (Proc.devRef .tc main_v50) : Map) (ix4 r c h w)
      = if i : (2 ≤ h.val ∧ h.val < 2 + 64) ∧ w.val = 129 then
          (V (Proc.devRef .tc main_v10) : Faces (BitVec 32)) (ix4 ⟨(r.val + 5) % 6, by omega⟩ ⟨(c.val + 1) % 5, by omega⟩
            0 ⟨129 - h.val, by omega⟩)
        else (V (Proc.devRef .tc main_v43) : Map) (ix4 r c h w) := by
  after_reads_simp [binaryIndexed_result_read, indexContents_cons, indexContents_empty]
  simp -implicitDefEqProofs only [TRef.toBuf, TRef.ofBuf, cast_cast, cast_eq]
  clean_types
  rw [patchCol _ _ _ 2 129 rfl rfl rfl rfl (by omega) (by omega)]
  by_cases i : (2 ≤ h.val ∧ h.val < 2 + 64) ∧ w.val = 129
  · rw [dif_pos i, dif_pos i]
    pointwise [rollCBack, rollR]
    simp only [List.mem_singleton, Fin.isValue, Fin.reduceEq, ↓reduceIte, Fin.val_rev]
    split_ifs <;> exact congrArg (V (Proc.devRef .tc main_v10) : Faces (BitVec 32))
      (Spec.ix4_eq (by simp only [Fin.val_rev] <;> omega) (by simp only [Fin.val_rev] <;> omega) (by simp only [Fin.val_rev] <;> omega) (by simp only [Fin.val_rev] <;> omega))
  · rw [dif_neg i, dif_neg i]

end Cert.RefIndex

end
-- ==== Proof.RefKeep.lean ====
/- Which buffers each stretch of the reference's operations writes. A buffer that a stretch does not write holds what it
   held before. -/
module

public import proofs.«01_k».proof.Proof.RefRun

@[expose] public section

set_option maxRecDepth 16384

noncomputable section

namespace Cert.RefKeep

open Cert.ReferenceIdeal Cert.ReferenceIdeal.Gen Cert.RefRun Idealize.ShloMosaic Idealize.ShloMosaic.TcCoe
open Idealize.SL.Sem Idealize.ShloMosaic.StableHlo

variable {F : FTy → Type} [FloatOps F] (V : Valuation τ sig (Elt F)) {r : Ref sig .tc}

/-- What the stretch for the masked argument writes. -/
abbrev writesFlat : List (Ref sig .tc) :=
  [main_cst, main_v0, main_cst_0, main_v1, main_c, main_c_1, main_v2, main_cst_2, main_v3, main_c_3, main_c_4,
   main_v4, main_v5, main_v6, main_v7, main_v8]

/-- The stretch for the masked argument keeps every other buffer. -/
theorem keepFlat (h : r ∉ writesFlat) : after opsFlat V (Proc.devRef .tc r) = V (Proc.devRef .tc r) :=
  after_unwritten writesFlat rfl h V

/-- What the stretch for the interior of the index map writes. -/
abbrev writesStart : List (Ref sig .tc) :=
  [main_v9, main_v10, main_c_5, main_v11, main_c_6, main_c_7, main_c_8, main_c_9, main_v12]

/-- The stretch for the interior of the index map keeps every other buffer. -/
theorem keepStart (h : r ∉ writesStart) : after opsStart V (Proc.devRef .tc r) = V (Proc.devRef .tc r) :=
  after_unwritten writesStart rfl h V

/-- What the stretch for the top edge, left half writes. -/
abbrev writesTopLeft : List (Ref sig .tc) :=
  [main_call0_v0, main_call0_v1, main_v13, main_v14, main_v15, main_v16, main_c_10, main_c_11, main_c_12, main_c_13,
   main_v17]

/-- The stretch for the top edge, left half keeps every other buffer. -/
theorem keepTopLeft (h : r ∉ writesTopLeft) : after opsTopLeft V (Proc.devRef .tc r) = V (Proc.devRef .tc r) :=
  after_unwritten writesTopLeft rfl h V

/-- What the stretch for the top edge, right half writes. -/
abbrev writesTopRight : List (Ref sig .tc) :=
  [main_call1_v0, main_call1_v1, main_v18, main_call2_v0, main_call2_v1, main_v19, main_v20, main_v21, main_v22,
   main_v23, main_c_14, main_c_15, main_c_16, main_c_17, main_v24]

/-- The stretch for the top edge, right half keeps every other buffer. -/
theorem keepTopRight (h : r ∉ writesTopRight) : after opsTopRight V (Proc.devRef .tc r) = V (Proc.devRef .tc r) :=
  after_unwritten writesTopRight rfl h V

/-- What the stretch for the bottom edge, left half writes. -/
abbrev writesBotLeft : List (Ref sig .tc) :=
  [main_call4_v0, main_call4_v1, main_v25, main_call5_v0, main_call5_v1, main_v26, main_v27, main_v28, main_v29,
   main_v30, main_c_18, main_c_19, main_c_20, main_c_21, main_v31]

/-- The stretch for the bottom edge, left half keeps every other buffer. -/
theorem keepBotLeft (h : r ∉ writesBotLeft) : after opsBotLeft V (Proc.devRef .tc r) = V (Proc.devRef .tc r) :=
  after_unwritten writesBotLeft rfl h V

/-- What the stretch for the bottom edge, right half writes. -/
abbrev writesBotRight : List (Ref sig .tc) :=
  [main_call7_v0, main_call7_v1, main_v32, main_v33, main_v34, main_v35, main_c_22, main_c_23, main_c_24, main_c_25,
   main_v36]

/-- The stretch for the bottom edge, right half keeps every other buffer. -/
theorem keepBotRight (h : r ∉ writesBotRight) : after opsBotRight V (Proc.devRef .tc r) = V (Proc.devRef .tc r) :=
  after_unwritten writesBotRight rfl h V

/-- What the stretch for the left edge writes. -/
abbrev writesLeft : List (Ref sig .tc) :=
  [main_call8_v0, main_call8_v1, main_v37, main_call9_v0, main_call9_v1, main_v38, main_v39, main_v40, main_v41,
   main_v42, main_c_26, main_c_27, main_c_28, main_c_29, main_v43]

/-- The stretch for the left edge keeps every other buffer. -/
theorem keepLeft (h : r ∉ writesLeft) : after opsLeft V (Proc.devRef .tc r) = V (Proc.devRef .tc r) :=
  after_unwritten writesLeft rfl h V

/-- What the stretch for the right edge writes. -/
abbrev writesRight : List (Ref sig .tc) :=
  [main_call11_v0, main_call11_v1, main_v44, main_call12_v0, main_call12_v1, main_v45, main_v46, main_v47, main_v48,
   main_v49, main_c_30, main_c_31, main_c_32, main_c_33, main_v50]

/-- The stretch for the right edge keeps every other buffer. -/
theorem keepRight (h : r ∉ writesRight) : after opsRight V (Proc.devRef .tc r) = V (Proc.devRef .tc r) :=
  after_unwritten writesRight rfl h V

/-- What the stretch for the read at the index map writes. -/
abbrev writesTake : List (Ref sig .tc) :=
  [main_v51, main_call14_c, main_call14_v0, main_call14_v1, main_call14_c_0, main_call14_v2, main_call14_v3,
   main_call14_v4, main_call14_v5, main_call14_c_1, main_call14_c_2, main_call14_v6, main_call14_v7, main_call14_v8,
   main_call14_v9, main_call14_v10, main_call14_v11, main_call14_c_3, main_call14_v12, main_call14_v13,
   main_call14_v14, main_call14_cst, main_call14_v15, main_v52, main_v53]

/-- The stretch for the read at the index map keeps every other buffer. -/
theorem keepTake (h : r ∉ writesTake) : after opsTake V (Proc.devRef .tc r) = V (Proc.devRef .tc r) :=
  after_unwritten writesTake rfl h V

end Cert.RefKeep

end
-- ==== Proof.RefMap.lean ====
/- The reference's finished index map. -/
module

public import proofs.«01_k».proof.Proof.RefIndex
public import proofs.«01_k».proof.Proof.RefKeep
public import Idealize.ShloMosaic.Lib.StableHlo.ReadAt

@[expose] public section

set_option maxRecDepth 16384

noncomputable section

namespace Cert.RefMap

open Cert.ReferenceIdeal Cert.ReferenceIdeal.Gen Cert.RefRun Cert.RefIndex Cert.RefKeep Idealize.ShloMosaic Idealize.ShloMosaic.TcCoe
open Idealize.SL.Sem Idealize.ShloMosaic.StableHlo

variable {F : FTy → Type} [FloatOps F] (V : Valuation τ sig (Elt F))

/-- The positions of the unpadded faces, counted in order: face position `(r, c, h, w)` has the word of its place. -/
theorem pos_at (r : Fin 6) (c : Fin 5) (h : Fin 64) (w : Fin 128) :
    (after opsStart V (Proc.devRef .tc main_v10) : Faces (BitVec 32)) (ix4 r c h w)
      = BitVec.ofNat 32 (Spec.place (r, c, h, w)) := by
  after_reads_simp [binaryIndexed_result_read, indexContents_cons, indexContents_empty]
  clean_types
  pointwise
  exact congrArg (BitVec.ofNat 32) (by dsimp only [Spec.place]; omega)

/-- The index map after its interior is filled. -/
theorem inner_at (r : Fin 6) (c : Fin 5) (h : Fin 66) (w : Fin 130) :
    (after opsStart V (Proc.devRef .tc main_v12) : Map) (ix4 r c h w)
      = if i : (1 ≤ h.val ∧ h.val < 1 + 64) ∧ 1 ≤ w.val ∧ w.val < 1 + 128 then
          (after opsStart V (Proc.devRef .tc main_v10) : Faces (BitVec 32)) (ix4 r c ⟨h.val - 1, by omega⟩ ⟨w.val - 1, by omega⟩)
        else 0#32 := by
  after_reads_simp [binaryIndexed_result_read, indexContents_cons, indexContents_empty]
  clean_types
  rw [patchFace _ _ _ 1 1 rfl rfl rfl rfl (by omega) (by omega)]
  by_cases i : (1 ≤ h.val ∧ h.val < 1 + 64) ∧ 1 ≤ w.val ∧ w.val < 1 + 128
  · rw [dif_pos i, dif_pos i]
  · rw [dif_neg i, dif_neg i]
    pointwise

/-- The word of the place of a face position. -/
abbrev word (s : Spec.Pos) : BitVec 32 := BitVec.ofNat 32 (Spec.place s)

/-- The count of the positions after the stretch that makes it. -/
abbrev counted : Faces (BitVec 32) := V2 V (Proc.devRef .tc main_v10)

/-- The count of the positions, still there after three stretches. -/
theorem counted3 : V3 V (Proc.devRef .tc main_v10) = counted V :=
  keepTopLeft (V2 V) (by decide)

/-- The count of the positions, still there after four stretches. -/
theorem counted4 : V4 V (Proc.devRef .tc main_v10) = counted V :=
  (keepTopRight (V3 V) (by decide)).trans (counted3 V)

/-- The count of the positions, still there after five stretches. -/
theorem counted5 : V5 V (Proc.devRef .tc main_v10) = counted V :=
  (keepBotLeft (V4 V) (by decide)).trans (counted4 V)

/-- The count of the positions, still there after six stretches. -/
theorem counted6 : V6 V (Proc.devRef .tc main_v10) = counted V :=
  (keepBotRight (V5 V) (by decide)).trans (counted5 V)

/-- The count of the positions, still there after seven stretches. -/
theorem counted7 : V7 V (Proc.devRef .tc main_v10) = counted V :=
  (keepLeft (V6 V) (by decide)).trans (counted6 V)

/-- The element of an index map that reads the count at a place `s` is the word of the place. -/
theorem word_at {x : Faces (BitVec 32)} (hx : x = counted V) (s t : Spec.Pos) (h : t = s) :
    x (ix4 s.1 s.2.1 s.2.2.1 s.2.2.2) = word t := by
  rw [hx, h]; exact pos_at (V1 V) _ _ _ _

/-- The finished index map: each padded position has the word of the place of the position it shows. -/
theorem map_at (r : Fin 6) (c : Fin 5) (h : Fin 66) (w : Fin 130) :
    (V8 V (Proc.devRef .tc main_v50) : Map) (ix4 r c h w) = word (Spec.src r c h w) := by
  refine (right_at (V7 V) r c h w).trans ?_
  split
  · exact word_at V (counted7 V) (_, _, _, _) _ (Spec.src_right ⟨by omega, by omega, by omega⟩ rfl rfl rfl rfl)
  refine (left_at (V6 V) r c h w).trans ?_
  split
  · exact word_at V (counted6 V) (_, _, _, _) _ (Spec.src_left ⟨by omega, by omega, by omega⟩ rfl rfl rfl rfl)
  refine (botRight_at (V5 V) r c h w).trans ?_
  split
  · exact word_at V (counted5 V) (_, _, _, _) _ (Spec.src_botRight ⟨by omega, by omega, by omega⟩ rfl rfl rfl rfl)
  refine (botLeft_at (V4 V) r c h w).trans ?_
  split
  · exact word_at V (counted4 V) (_, _, _, _) _ (Spec.src_botLeft ⟨by omega, by omega, by omega⟩ rfl rfl rfl rfl)
  refine (topRight_at (V3 V) r c h w).trans ?_
  split
  · exact word_at V (counted3 V) (_, _, _, _) _ (Spec.src_topRight ⟨by omega, by omega, by omega⟩ rfl rfl rfl rfl)
  refine (topLeft_at (V2 V) r c h w).trans ?_
  split
  · exact word_at V rfl (_, _, _, _) _ (Spec.src_topLeft ⟨by omega, by omega, by omega⟩ rfl rfl rfl rfl)
  refine (inner_at (V1 V) r c h w).trans ?_
  split
  · exact word_at V rfl (_, _, _, _) _ (Spec.src_interior ⟨by omega, by omega, by omega, by omega⟩ rfl rfl rfl rfl)
  · rw [Spec.src_corner (by unfold Spec.Corner; omega)]; rfl

end Cert.RefMap

end
-- ==== Proof.RefTake.lean ====
/- The reference's last stretch: the flat argument read at the index map. -/
module

public import proofs.«01_k».proof.Proof.RefRun
public import proofs.«01_k».proof.Proof.Spec
public import Idealize.ShloMosaic.Lib.StableHlo.ReadAt
public import Idealize.ShloMosaic.Lib.ReduceAll

@[expose] public section

set_option maxRecDepth 16384

noncomputable section

namespace Cert.RefTake

open Cert.ReferenceIdeal Cert.ReferenceIdeal.Gen Cert.RefRun Idealize.ShloMosaic Idealize.ShloMosaic.TcCoe
open Idealize.SL.Sem Idealize.ShloMosaic.StableHlo

/-- The gather of single elements along the last axis: entry `(a, b)` of the result, at `k`, is the operand's at the
    start word of `k`, read signed and clamped to the axis. -/
theorem gather_at {α : Type} (x : S8x32x245760.Idx → α) (i : S257400x1.Idx → BitVec 32) (a : Fin 8) (b : Fin 32)
    (k : Fin 257400) :
    Host.gather gather_S8x32x245760_S257400x1_S8x32x257400_01_2_n_n_2_1_8321 x i (ix3 a b k)
      = x (ix3 a b ⟨min (i (ix2 k 0)).toInt.toNat 245759, by omega⟩) := by
  unfold Host.gather
  refine congrArg x (funext fun ax => Fin.ext ?_)
  have hk (q : Fin 3) : q ∈ gather_S8x32x245760_S257400x1_S8x32x257400_01_2_n_n_2_1_8321.sKept ↔ q ≠ 2 := by
    rw [GatherDims.mem_sKept]
    exact ⟨fun t h => t.1 (List.mem_singleton.mpr h), fun t => ⟨fun h => t (List.mem_singleton.mp h), List.not_mem_nil⟩⟩
  have hs (q : Fin 3) : q ∈ gather_S8x32x245760_S257400x1_S8x32x257400_01_2_n_n_2_1_8321.startIndexMap ↔ q = 2 :=
    List.mem_singleton
  simp only [GatherDims.operandIdx]
  rw [GatherDims.batchCoord_eq_zero _ _ _ List.not_mem_nil, Nat.add_zero]
  have three : ∀ q : Fin 3, q = 0 ∨ q = 1 ∨ q = 2 := by decide
  rcases three ax with rfl | rfl | rfl
  · unfold GatherDims.start GatherDims.offCoord
    rw [dif_neg ((hs 0).not.mpr (by decide)), dif_pos ((hk 0).mpr (by decide)), Nat.zero_add]
    rfl
  · unfold GatherDims.start GatherDims.offCoord
    rw [dif_neg ((hs 1).not.mpr (by decide)), dif_pos ((hk 1).mpr (by decide)), Nat.zero_add]
    rfl
  · rw [GatherDims.offCoord_eq_zero _ _ _ ((hk 2).not.mpr (by decide)), Nat.add_zero]
    unfold GatherDims.start
    rw [dif_pos ((hs 2).mpr rfl)]
    refine congrArg (fun q => min (i q).toInt.toNat 245759) (funext fun bx => Fin.ext ?_)
    match bx with
    | ⟨0, _⟩ => rfl
    | ⟨1, _⟩ => rfl

/-- A place, as a word, reads back signed. -/
theorem word_toInt (n : Fin 245760) : (BitVec.ofNat 32 n.val).toInt = n.val := by
  rw [BitVec.toInt_eq_toNat_of_lt (by rw [BitVec.toNat_ofNat]; omega), BitVec.toNat_ofNat]; omega

/-- The word of a place is not negative. -/
theorem word_slt (n : Fin 245760) : IntOp.cmpi .slt (BitVec.ofNat 32 n.val) 0#32 = 0#1 := by
  simp only [IntOp.cmpi, BitVec.slt, word_toInt, BitVec.toInt_zero]
  rw [decide_eq_false (by omega)]; rfl

/-- The word of a place is at least zero. -/
theorem word_sge (n : Fin 245760) : IntOp.cmpi .sge (BitVec.ofNat 32 n.val) 0#32 = 1#1 := by
  rw [IntOp.cmpi_sge, word_toInt, BitVec.toInt_zero]; omega

/-- The word of a place is at most the last place's. -/
theorem word_sle (n : Fin 245760) : IntOp.cmpi .sle (BitVec.ofNat 32 n.val) 245759#32 = 1#1 := by
  have h : (245759#32 : BitVec 32).toInt = 245759 := by decide
  rw [IntOp.cmpi_sle, word_toInt, h]; omega

/-- A word of places that is never negative is kept by the shift of negative ones. -/
theorem word_kept (n : Fin 245760) (x : BitVec 32) :
    Scalar.select (IntOp.cmpi .slt (BitVec.ofNat 32 n.val) 0#32) x (BitVec.ofNat 32 n.val) = BitVec.ofNat 32 n.val := by
  rw [word_slt]; rfl

/-- The conjunction of ones is one. -/
theorem all_ones {ι : Type} (s : Finset ι) : Finset.fold IntOp.andi (1#1) (fun _ => 1#1) s = 1#1 := by
  classical
  induction s using Finset.induction_on with
  | empty => rfl
  | insert j s hj ih => rw [Finset.fold_insert hj, ih]; rfl

/-- The reference's last stretch: where the index map has the words of the places `n`, the result has the flat argument's
    elements at those places. No place is negative or past the end, so neither repair of a place acts. -/
theorem take_at (V : Valuation τ sig (Elt Ideal)) (n : Fin 6 → Fin 5 → Fin 66 → Fin 130 → Fin 245760)
    (hn : ∀ r c h w, (V (Proc.devRef .tc main_v50) : S6x5x66x130.Idx → BitVec 32) (ix4 r c h w)
      = BitVec.ofNat 32 (n r c h w).val)
    (a : Fin 8) (b : Fin 32) (r : Fin 6) (c : Fin 5) (h : Fin 66) (w : Fin 130) :
    (after opsTake V (Proc.devRef .tc main_v53) : S8x32x6x5x66x130.Idx → EReal) (ix6 a b r c h w)
      = (V (Proc.devRef .tc main_v8) : S8x32x245760.Idx → EReal) (ix3 a b (n r c h w)) := by
  after_reads_simp [binaryIndexed_result_read, indexContents_cons, indexContents_empty]
  simp -implicitDefEqProofs only [TRef.toBuf, TRef.ofBuf, cast_cast, cast_eq]
  clean_types
  pointwise
  have e : (ix4 ⟨(r.val * 42900 + c.val * 8580 + h.val * 130 + w.val) / 42900, by omega⟩
      ⟨(r.val * 42900 + c.val * 8580 + h.val * 130 + w.val) / 8580 % 5, by omega⟩
      ⟨(r.val * 42900 + c.val * 8580 + h.val * 130 + w.val) / 130 % 66, by omega⟩
      ⟨(r.val * 42900 + c.val * 8580 + h.val * 130 + w.val) % 130, by omega⟩ : S6x5x66x130.Idx) = ix4 r c h w :=
    Spec.ix4_eq (by dsimp only; omega) (by dsimp only; omega) (by dsimp only; omega) (by dsimp only; omega)
  refine (congrArg (fun q => Scalar.select _ q _) (gather_at _ _ a b _)).trans ?_
  pointwise
  simp only [e, hn, word_kept, word_sge, word_sle]
  have one : IntOp.andi 1#1 1#1 = 1#1 := rfl
  simp only [one, all_ones]
  exact congrArg (V (Proc.devRef .tc main_v8) : S8x32x245760.Idx → EReal)
    (congrArg (ix3 a b) (Fin.ext (by dsimp only; rw [word_toInt]; omega)))

end Cert.RefTake

end
-- ==== Proof.RefValue.lean ====
/- The reference's value: it ends with the padded faces of its argument in its result buffer, and its argument as it was. -/
module

public import proofs.«01_k».proof.Proof.RefFlat
public import proofs.«01_k».proof.Proof.RefMap
public import proofs.«01_k».proof.Proof.RefTake

@[expose] public section

set_option maxRecDepth 16384

noncomputable section

namespace Cert.RefValue

open Cert.ReferenceIdeal Cert.ReferenceIdeal.Gen Cert.RefRun Cert.RefKeep Idealize.ShloMosaic Idealize.ShloMosaic.TcCoe
open Idealize.SL.Sem Idealize.ShloMosaic.StableHlo

section Kept

variable {F : FTy → Type} [FloatOps F] (V : Valuation τ sig (Elt F)) {r : Ref sig .tc}

/-- A buffer that no stretch after the first but before the last writes holds what the first left. -/
theorem kept (h2 : r ∉ writesStart) (h3 : r ∉ writesTopLeft) (h4 : r ∉ writesTopRight) (h5 : r ∉ writesBotLeft)
    (h6 : r ∉ writesBotRight) (h7 : r ∉ writesLeft) (h8 : r ∉ writesRight) :
    V8 V (Proc.devRef .tc r) = V1 V (Proc.devRef .tc r) :=
  (keepRight _ h8).trans ((keepLeft _ h7).trans ((keepBotRight _ h6).trans ((keepBotLeft _ h5).trans
    ((keepTopRight _ h4).trans ((keepTopLeft _ h3).trans (keepStart _ h2))))))

/-- No stretch writes the argument. -/
theorem arg_kept : V9 V (Proc.devRef .tc main_arg0) = V (Proc.devRef .tc main_arg0) :=
  (keepTake _ (by decide)).trans ((kept V (by decide) (by decide) (by decide) (by decide) (by decide) (by decide)
    (by decide)).trans (keepFlat V (by decide)))

/-- The reference's frame: it ends with its argument as it was and every counter at zero. -/
theorem quiescent (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun _ h => ⟨fun c => (h c main_arg0).trans (arg_kept _), counters_zero _⟩) (RefRun.run m ρ)

end Kept

/-- The nine stretches leave the padded faces of the argument in the result buffer. -/
theorem result_eq (V : Valuation τ sig (Elt Ideal)) :
    (V9 V (Proc.devRef .tc main_v53) : S8x32x6x5x66x130.Idx → EReal)
      = Spec.padAll (V (Proc.devRef .tc main_arg0) : S8x32x6x5x64x128.Idx → EReal) := by
  funext y
  rw [← ix6_eta y]
  refine (RefTake.take_at (V8 V) (fun r c h w => ⟨Spec.place (Spec.src r c h w), Spec.place_lt _⟩)
    (fun r c h w => RefMap.map_at V r c h w) _ _ _ _ _ _).trans ?_
  refine (congrFun (kept V (r := main_v8) (by decide) (by decide) (by decide) (by decide) (by decide) (by decide)
    (by decide)) _).trans ?_
  exact RefFlat.flat_at V _ _ _ _ _ _

/-- The reference ends with the padded faces of its argument in its result buffer, and its argument as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53)
          = Spec.padAll (m ((c.tc : Thread nD τ).loc main_arg0) : S8x32x6x5x64x128.Idx → EReal)
        ∧ r.2.mem ((c.tc : Thread nD τ).loc main_arg0) = m ((c.tc : Thread nD τ).loc main_arg0) :=
  (θ_run defs _ _).mono (fun _ h c => ⟨(h c main_v53).trans (result_eq _), (h c main_arg0).trans (arg_kept _)⟩)
    (RefRun.run m ρ)

end Cert.RefValue

end
-- ==== Proof.lean ====
/- The certificate: the kernel pads the faces of its argument as the reference does. The frame of the program at its own
   formats is the generated one; the frame and the value of the program over the extended reals are in KernelFrame and
   KernelValue, those of the reference in RefValue. Both values are stated against `Spec.padAll`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.KernelValue
public import proofs.«01_k».proof.Proof.RefValue

@[expose] public section

noncomputable section

namespace Cert.Proof

open Idealize.ShloMosaic Idealize.SL.Sem

/-- From memories that agree on the argument, kernel and reference both end with the padded faces of the argument. -/
theorem same_value : Cert.algebraic_KernelIdeal_ReferenceIdeal (hKernelIdeal := Cert.KernelIdeal.Gen.facts)
    (hReferenceIdeal := Cert.ReferenceIdeal.Gen.facts) := fun m g m' g' _ agree =>
  ⟨fun c => Cert.Spec.padAll (m ((c.tc : Thread Cert.KernelIdeal.nD Cert.KernelIdeal.τ).loc Cert.KernelIdeal.main_arg0)),
    Cert.KernelValue.run m g,
    (θ_run (Cert.ReferenceIdeal.defs (F := Ideal)) _ _).mono
      (fun _ h c => ⟨(h c).1.trans (congrArg Cert.Spec.padAll (agree c)), (h c).2⟩) (Cert.RefValue.run m' g')⟩

/-- The frames of the three programs, the idealization of the kernel, and the equality of the two values. -/
theorem claim : Cert.Claim :=
  ⟨Cert.Kernel.Gen.facts, Cert.KernelIdeal.Gen.facts, Cert.ReferenceIdeal.Gen.facts,
    fun m g _ => Cert.Kernel.Gen.frame m g, fun m g _ => Cert.KernelFrame.quiescent m g,
    fun m g _ => Cert.RefValue.quiescent m g, trivial, same_value⟩

end Cert.Proof

end
